-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![768, 384]⟩ ⟨2, ![768, 768]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![384, 768]⟩ ⟨2, ![768, 1536]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![768, 768]⟩ ⟨2, ![768, 1536]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S_ : Shape := ⟨0, ![]⟩
abbrev S4 : Shape := ⟨1, ![4]⟩
abbrev S384x256 : Shape := ⟨2, ![384, 256]⟩
abbrev S384x384 : Shape := ⟨2, ![384, 384]⟩
abbrev S1 : Shape := ⟨1, ![1]⟩
abbrev S384x128 : Shape := ⟨2, ![384, 128]⟩

abbrev nBuf : Space → Nat
  | .hbm => 3
  | .vmem => 8
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S768x768, .bf16⟩
  | .local _ .vmem, ⟨0, _⟩ => ⟨S768x384, .bf16⟩
  | .local _ .vmem, ⟨1, _⟩ => ⟨S384x768, .bf16⟩
  | .local _ .vmem, ⟨2, _⟩ => ⟨S768x768, .bf16⟩
  | .local _ .vmem, ⟨3, _⟩ => ⟨S768x384, .bf16⟩
  | .local _ .vmem, ⟨4, _⟩ => ⟨S384x768, .bf16⟩
  | .local _ .vmem, ⟨5, _⟩ => ⟨S768x384, .bf16⟩
  | .local _ .vmem, ⟨6, _⟩ => ⟨S384x768, .bf16⟩
  | .local _ .vmem, ⟨7, _⟩ => ⟨S768x768, .f32⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v27 : BitVec 32 := Scalar.muli v5 c384_i32
  let c0_i32_24 : BitVec 32 := 0#32
  ![v27.toNat, 0]
def k0_dev3 (d0 : Dev nD) : Nat :=
  let c0_i32_22 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_21 : BitVec 32 := 2#32
  let v30 : BitVec 32 := Scalar.muli v6 c2_i32_21
  let v31 : BitVec 32 := Scalar.addi c0_i32_22 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v32 : BitVec 32 := Scalar.muli v5 c1_i32_23
  let v33 : BitVec 32 := Scalar.addi v31 v32
  v33.toNat
def k0_dev4 (d0 : Dev nD) : Nat :=
  let c0_i32_29 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_28 : BitVec 32 := 2#32
  let v36 : BitVec 32 := Scalar.muli v6 c2_i32_28
  let v37 : BitVec 32 := Scalar.addi c0_i32_29 v36
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v38 : BitVec 32 := Scalar.muli v5 c1_i32_30
  let v39 : BitVec 32 := Scalar.addi v37 v38
  v39.toNat
def k0_dev5 (d0 : Dev nD) : Nat :=
  let c0_i32_41 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_40 : BitVec 32 := 2#32
  let v51 : BitVec 32 := Scalar.muli v6 c2_i32_40
  let v52 : BitVec 32 := Scalar.addi c0_i32_41 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v53 : BitVec 32 := Scalar.muli v5 c1_i32_42
  let v54 : BitVec 32 := Scalar.addi v52 v53
  v54.toNat
def k0_dev6 (d0 : Dev nD) : Nat :=
  let c0_i32_52 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_51 : BitVec 32 := 2#32
  let v66 : BitVec 32 := Scalar.muli v6 c2_i32_51
  let v67 : BitVec 32 := Scalar.addi c0_i32_52 v66
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v68 : BitVec 32 := Scalar.muli v5 c1_i32_53
  let v69 : BitVec 32 := Scalar.addi v67 v68
  v69.toNat
def k0_dev7 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v81 : BitVec 32 := Scalar.muli v6 c2_i32_61
  let v82 : BitVec 32 := Scalar.addi c0_i32_62 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v83 : BitVec 32 := Scalar.muli v5 c1_i32_63
  let v84 : BitVec 32 := Scalar.addi v82 v83
  v84.toNat
def k0_dev8 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_78 : BitVec 32 := 2#32
  let v103 : BitVec 32 := Scalar.muli v2 c2_i32_78
  let v104 : BitVec 32 := Scalar.addi c0_i32_79 v103
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_80 : BitVec 32 := 1#32
  let v105 : BitVec 32 := Scalar.muli v7 c1_i32_80
  let v106 : BitVec 32 := Scalar.addi v104 v105
  v106.toNat
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v27 : BitVec 32 := Scalar.muli v5 c384_i32
  let v117 : Index := Scalar.indexCast v27
  let c0_92 : Index := 0#32
  ![v117.toNat, 0]
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v27 : BitVec 32 := Scalar.muli v5 c384_i32
  let v121 : Index := Scalar.indexCast v27
  let c0_96 : Index := 0#32
  ![v121.toNat, 0]
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v27 : BitVec 32 := Scalar.muli v5 c384_i32
  let v139 : Index := Scalar.indexCast v27
  let c256_111 : Index := 256#32
  ![v139.toNat, 256]
def k0_off5 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v27 : BitVec 32 := Scalar.muli v5 c384_i32
  let v157 : Index := Scalar.indexCast v27
  let c512_126 : Index := 512#32
  ![v157.toNat, 512]
def k0_off6 (d0 : Dev nD) : Fin 2 → Nat :=
  let c1_i32_19 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v28 : BitVec 32 := Scalar.subi c1_i32_19 v5
  let c384_i32_20 : BitVec 32 := 384#32
  let v29 : BitVec 32 := Scalar.muli v28 c384_i32_20
  let v169 : Index := Scalar.indexCast v29
  let c0_133 : Index := 0#32
  ![v169.toNat, 0]
def k0_off7 (d0 : Dev nD) : Fin 2 → Nat :=
  let c1_i32_19 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v28 : BitVec 32 := Scalar.subi c1_i32_19 v5
  let c384_i32_20 : BitVec 32 := 384#32
  let v29 : BitVec 32 := Scalar.muli v28 c384_i32_20
  let v173 : Index := Scalar.indexCast v29
  let c0_137 : Index := 0#32
  ![v173.toNat, 0]
def k0_off8 (d0 : Dev nD) : Fin 2 → Nat :=
  let c1_i32_19 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v28 : BitVec 32 := Scalar.subi c1_i32_19 v5
  let c384_i32_20 : BitVec 32 := 384#32
  let v29 : BitVec 32 := Scalar.muli v28 c384_i32_20
  let v183 : Index := Scalar.indexCast v29
  let c256_143 : Index := 256#32
  ![v183.toNat, 256]
def k0_off9 (d0 : Dev nD) : Fin 2 → Nat :=
  let c1_i32_19 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v28 : BitVec 32 := Scalar.subi c1_i32_19 v5
  let c384_i32_20 : BitVec 32 := 384#32
  let v29 : BitVec 32 := Scalar.muli v28 c384_i32_20
  let v193 : Index := Scalar.indexCast v29
  let c512_149 : Index := 512#32
  ![v193.toNat, 512]
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v27 : BitVec 32 := Scalar.muli v5 c384_i32
  let v211 : Index := Scalar.indexCast v27
  let c640_164 : Index := 640#32
  ![v211.toNat, 640]
def k0_off11 (d0 : Dev nD) : Fin 2 → Nat :=
  let c1_i32_19 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v28 : BitVec 32 := Scalar.subi c1_i32_19 v5
  let c384_i32_20 : BitVec 32 := 384#32
  let v29 : BitVec 32 := Scalar.muli v28 c384_i32_20
  let v221 : Index := Scalar.indexCast v29
  let c640_170 : Index := 640#32
  ![v221.toNat, 640]
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x768 : Shape := ⟨2, ![768, 768]⟩
abbrev S768x1536 : Shape := ⟨2, ![768, 1536]⟩

abbrev nBuf : Space → Nat
  | .hbm => 4
  | .vmem => 0
  | .smem => 0
  | _ => 0

abbrev bufTy : (tb : Table) → Fin (tcTables nBuf tb) → BufTy
  | .hbm, ⟨0, _⟩ => ⟨S768x768, .bf16⟩
  | .hbm, ⟨1, _⟩ => ⟨S768x1536, .bf16⟩
  | .hbm, ⟨2, _⟩ => ⟨S768x1536, .f32⟩
  | .hbm, ⟨3, _⟩ => ⟨S768x1536, .bf16⟩
  | _, _ => ⟨S768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Common.lean ====
/-
# The protocol of the two-axis exchange

Four devices on a 2 × 2 mesh hold blocks of `A` (its columns cut along `x`) and of `B` (its rows cut along `x`, its
columns along `y`). Each device copies its blocks into send buffers, meets its neighbour along each axis on the runtime's
barrier semaphore, and then makes six transfers: half the rows of its `A` block to its neighbour along `x`; the half it
received from there on to its neighbour along `y`; and the columns of its `B` block, in four pieces, to its neighbour
along `x`. This module names the devices, the cells and the transfers, states what each cell's owner receives with a wait
(the schedule of one round per cell), what each device owes at launch, and the levels that order the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy beside the exchange's, whose duties are named by a `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh -/

set_option backward.proofsInPublic true in
/-- The neighbour along `x`. -/
def xp (c : Dev nD) : Dev nD := ⟨(c.val % 2 + 2) - 2 * (c.val / 2), by have := c.isLt; show _ < 4; change c.val < 4 at this; omega⟩
set_option backward.proofsInPublic true in
/-- The neighbour along `y`. -/
def yp (c : Dev nD) : Dev nD := ⟨(2 * (c.val / 2) + 1) - c.val % 2, by have := c.isLt; show _ < 4; change c.val < 4 at this; omega⟩

theorem xp_xp (c : Dev nD) : xp (xp c) = c := by revert c; decide
theorem yp_yp (c : Dev nD) : yp (yp c) = c := by revert c; decide

/-- The device a transfer of kind `j` is addressed to: transfer 0 carries rows of `A` along `x`, transfer 1 carries them on
    along `y`, transfers 2 to 5 carry the four column pieces of `B` along `x`. -/
def pr : Fin 6 → Dev nD → Dev nD
  | 1 => yp
  | _ => xp

theorem pr_pr (j : Fin 6) (c : Dev nD) : pr j (pr j c) = c := by revert j c; decide

/-! ## Buffers, windows and cells -/

abbrev aIn : Memref sig .tc .vmem S768x384 .bf16 := Memref.whole cc0_stg0_0
abbrev bIn : Memref sig .tc .vmem S384x768 .bf16 := Memref.whole cc0_stg1_0
abbrev oM : Memref sig .tc .vmem S768x768 .bf16 := Memref.whole cc0_stg2_0
abbrev aS : Memref sig .tc .vmem S768x384 .bf16 := Memref.whole cc0_scratch0
abbrev bS : Memref sig .tc .vmem S384x768 .bf16 := Memref.whole cc0_scratch1
abbrev aO : Memref sig .tc .vmem S768x384 .bf16 := Memref.whole cc0_scratch2
abbrev bO : Memref sig .tc .vmem S384x768 .bf16 := Memref.whole cc0_scratch3
abbrev accM : Memref sig .tc .vmem S768x768 .f32 := Memref.whole cc0_scratch4

/-- The rows of `A` a device transfers: the upper half where `y = 0`, the lower where `y = 1`. -/
abbrev rowR (d : Dev nD) : Rect S768x384 := Rect.unit (s := S768x384) (k0_off1 d) S384x384.size (k0_off1_inb d)
/-- The four column pieces of `B`. -/
abbrev col0 : Rect S384x768 := Rect.unit (s := S384x768) ![0, 0] S384x256.size inb_S384x768_S384x256_0_0
abbrev col1 : Rect S384x768 := Rect.unit (s := S384x768) ![0, 256] S384x256.size inb_S384x768_S384x256_0_256
abbrev col2 : Rect S384x768 := Rect.unit (s := S384x768) ![0, 512] S384x128.size inb_S384x768_S384x128_0_512
abbrev col3 : Rect S384x768 := Rect.unit (s := S384x768) ![0, 640] S384x128.size inb_S384x768_S384x128_0_640

/-- The runtime's barrier semaphore. -/
abbrev barS : Sem sig := (SemArray.scalar (sig.barrier 0 rfl) : Sems sig S_).sem
/-- The semaphore transfer `j` pays at its source when the source has been read. -/
def sS : Fin 6 → DmaSem sig
  | 0 => cc0_scratch5.sem
  | 1 => cc0_scratch7.sem
  | 2 => ((cc0_scratch9.slice (Rect.unit (s := S4) ![0] S1.size inb_S4_S1_0)).squeeze S_ squeezes_S1_S_).sem
  | 3 => ((cc0_scratch9.slice (Rect.unit (s := S4) ![1] S1.size inb_S4_S1_1)).squeeze S_ squeezes_S1_S_).sem
  | 4 => ((cc0_scratch9.slice (Rect.unit (s := S4) ![2] S1.size inb_S4_S1_2)).squeeze S_ squeezes_S1_S_).sem
  | 5 => ((cc0_scratch9.slice (Rect.unit (s := S4) ![3] S1.size inb_S4_S1_3)).squeeze S_ squeezes_S1_S_).sem
/-- The semaphore transfer `j` pays at its target when it has landed. -/
def rS : Fin 6 → DmaSem sig
  | 0 => cc0_scratch6.sem
  | 1 => cc0_scratch8.sem
  | 2 => ((cc0_scratch10.slice (Rect.unit (s := S4) ![0] S1.size inb_S4_S1_0)).squeeze S_ squeezes_S1_S_).sem
  | 3 => ((cc0_scratch10.slice (Rect.unit (s := S4) ![1] S1.size inb_S4_S1_1)).squeeze S_ squeezes_S1_S_).sem
  | 4 => ((cc0_scratch10.slice (Rect.unit (s := S4) ![2] S1.size inb_S4_S1_2)).squeeze S_ squeezes_S1_S_).sem
  | 5 => ((cc0_scratch10.slice (Rect.unit (s := S4) ![3] S1.size inb_S4_S1_3)).squeeze S_ squeezes_S1_S_).sem

/-- The kernel's own semaphores: for each transfer its source's (`false`) and its target's (`true`). -/
def osem : Bool × Fin 6 → SemLoc sig
  | (false, j) => .dma (sS j)
  | (true, j) => .dma (rS j)

abbrev barCell (c : Dev nD) : GSem nD τ sig := ((c : Thread nD τ), .reg barS)
/-- The cell at one end of a transfer, -/
abbrev eCell (x : Bool × Fin 6) (c : Dev nD) : GSem nD τ sig := ((c : Thread nD τ), osem x)
/-- and at its target. -/
abbrev rCell (j : Fin 6) (c : Dev nD) : GSem nD τ sig := eCell (true, j) c

/-- All thirteen cells of a device: the barrier's (`none`) and the kernel's own. -/
abbrev KIx : Type := Option (Bool × Fin 6)
def csem : KIx → SemLoc sig
  | none => .reg barS
  | some x => osem x
def kcell (ck : Dev nD × KIx) : GSem nD τ sig := ((ck.1 : Thread nD τ), csem ck.2)

theorem osem_injective : Function.Injective osem := by decide
theorem csem_injective : Function.Injective csem := by decide

open Classical in
/-- Which transfer, and which end of it, a semaphore belongs to, if any. -/
def role (sm : SemLoc sig) : Option (Bool × Fin 6) := if h : ∃ x, osem x = sm then some h.choose else none

theorem role_osem (x : Bool × Fin 6) : role (osem x) = some x := by
  have h : ∃ y, osem y = osem x := ⟨x, rfl⟩
  unfold role; rw [dif_pos h, osem_injective h.choose_spec]
theorem role_none {sm : SemLoc sig} (h : ∀ x, osem x ≠ sm) : role sm = none := dif_neg fun ⟨x, hx⟩ => h x hx
theorem osem_ne_bar (x : Bool × Fin 6) : osem x ≠ .reg barS := by revert x; decide
theorem role_bar : role (.reg barS) = none := role_none osem_ne_bar

/-- The units transfer `j` pays at either end. -/
def amt : Fin 6 → ℕ
  | 0 | 1 => (aO.slice (rowR 0) (fun _ => rfl) : Memref sig .tc .vmem S384x384 .bf16).view.dmaCredit
  | 2 | 3 => (bO.slice col0 (fun _ => rfl) : Memref sig .tc .vmem S384x256 .bf16).view.dmaCredit
  | 4 | 5 => (bO.slice col2 (fun _ => rfl) : Memref sig .tc .vmem S384x128 .bf16).view.dmaCredit

theorem amt_pos : ∀ j, 0 < amt j
  | 0 | 1 => View.dmaCredit_pos _ (by decide)
  | 2 | 3 => View.dmaCredit_pos _ (by decide)
  | 4 | 5 => View.dmaCredit_pos _ (by decide)

/-! ## Contents -/

/-- A device's block of `A`, as the memory holds it at launch, -/
def xA (c : Dev nD) : (cc0_stg0_0 : Ref sig .tc).ty.Contents (Elt F) :=
  (win0_0.blk (0 : Fin 1)).view.read (Elt F) (m ((c : Thread nD τ).loc main_arg0))
/-- and its block of `B`. -/
def xB (c : Dev nD) : (cc0_stg1_0 : Ref sig .tc).ty.Contents (Elt F) :=
  (win0_1.blk (0 : Fin 1)).view.read (Elt F) (m ((c : Thread nD τ).loc main_arg1))

/-- Elements `S` of the vector buffer `b` on device `c`, at share `q`, holding `f`. -/
abbrev pt (b : Ref sig .tc) (c : Dev nD) (S : Finset ((c : Thread nD τ).loc b).ty.Idx) (q : PosShare TreeShare)
    (f : Buf (Elt F) ((c : Thread nD τ).loc b)) : sProp 𝕄 := ((c : Thread nD τ).loc b) ↦[S]{q} f

/-- The two half shares: the left one stays for the device's own loads while a transfer reads under the right one. -/
abbrev hl : PosShare TreeShare := fullShare.left
abbrev hr : PosShare TreeShare := fullShare.right

/-! ## The schedule -/

/-- What a neighbour's arrival at the barrier hands device `c`: the elements of that neighbour's receive buffers device
    `c` will write — along `x` (duty `false`) its rows of the received `A` and the whole received `B`, along `y` (duty
    `true`) the same rows of the received `A`. -/
def barPay (d : Bool) (c : Dev nD) : sProp 𝕄 :=
  if d then iprop(∃ f, pt cc0_scratch2 (yp c) (rowR c).set fullShare f)
  else iprop((∃ f, pt cc0_scratch2 (xp c) (rowR c).set fullShare f) ∗ ∃ f, pt cc0_scratch3 (xp c) Finset.univ fullShare f)

/-- What the wait for transfer `j`'s source gives back: the share lent. -/
def sendPay (j : Fin 6) (c : Dev nD) : sProp 𝕄 := match j with
  | 0 => pt cc0_scratch0 c (rowR c).set hr (xA m c)
  | 1 => pt cc0_scratch2 c (rowR c).set hr (xA m (xp c))
  | 2 => pt cc0_scratch1 c col0.set hr (xB m c)
  | 3 => pt cc0_scratch1 c col1.set hr (xB m c)
  | 4 => pt cc0_scratch1 c col2.set hr (xB m c)
  | 5 => pt cc0_scratch1 c col3.set hr (xB m c)

/-- What the wait for transfer `j`'s landing gives: the elements written, holding the sender's. -/
def recvPay (j : Fin 6) (c : Dev nD) : sProp 𝕄 := match j with
  | 0 => pt cc0_scratch2 c (rowR c).set fullShare (xA m (xp c))
  | 1 => pt cc0_scratch2 c (rowR (yp c)).set fullShare (xA m (xp (yp c)))
  | 2 => pt cc0_scratch3 c col0.set fullShare (xB m (xp c))
  | 3 => pt cc0_scratch3 c col1.set fullShare (xB m (xp c))
  | 4 => pt cc0_scratch3 c col2.set fullShare (xB m (xp c))
  | 5 => pt cc0_scratch3 c col3.set fullShare (xB m (xp c))

/-- The same by the end of the transfer. -/
def endPay (x : Bool × Fin 6) (c : Dev nD) : sProp 𝕄 := if x.1 then recvPay m x.2 c else sendPay m x.2 c

omit [FloatOps F] in
instance barPay_storable (d : Bool) (c : Dev nD) : BI.Storable (upEmb : UEmb _ 𝕄) (barPay (F := F) d c) := by
  unfold barPay; split <;> infer_instance
omit [FloatOps F] in
instance endPay_storable (x : Bool × Fin 6) (c : Dev nD) : BI.Storable (upEmb : UEmb _ 𝕄) (endPay m x c) := by
  unfold endPay sendPay recvPay; repeat' split
  all_goals infer_instance

/-- One round, round 0, on the cells of the vector thread: a barrier cell has the two duties `false` (the neighbour along
    `x`) and `true` (the one along `y`) of one unit each; a transfer's cell at either end the duty `false` of its units. -/
def sched : Rounds.Schedule (GSem nD τ sig) Bool 𝕄 where
  duties g r := if r = 0 ∧ g.1.2 = .tc then
      (match role g.2 with | some _ => {false} | none => if g.2 = .reg barS then Finset.univ else ∅) else ∅
  unitless _ := False
  amount g _ _ := match role g.2 with | some x => amt x.2 | none => 1
  payload g _ d := match role g.2 with
    | some x => endPay m x g.1.1
    | none => barPay d g.1.1
  amount_pos g _ _ _ := by split; exacts [amt_pos _, Nat.one_pos]

omit [FloatOps F] in
instance sched_payload_storable (g : GSem nD τ sig) (r : ℕ) (d : Bool) :
    BI.Storable (upEmb : UEmb _ 𝕄) ((sched (F := F) m).payload g r d) := by
  dsimp only [sched]; split <;> infer_instance

section Sched
variable (c : Dev nD) (x : Bool × Fin 6)

omit [FloatOps F] in
theorem duties_bar : (sched (F := F) m).duties (barCell c) 0 = Finset.univ := by
  dsimp only [sched]; rw [if_pos ⟨rfl, rfl⟩, role_bar]; exact if_pos rfl
omit [FloatOps F] in
theorem duties_end : (sched (F := F) m).duties (eCell x c) 0 = {false} := by
  dsimp only [sched]; rw [if_pos ⟨rfl, rfl⟩, role_osem]
omit [FloatOps F] in
theorem duties_later (g : GSem nD τ sig) : ∀ r, 1 ≤ r → (sched (F := F) m).duties g r = ∅ :=
  fun r hr => by dsimp only [sched]; exact if_neg fun h => by omega

omit [FloatOps F] in
theorem amount_bar (d : Bool) : (sched (F := F) m).amount (barCell c) 0 d = 1 := by dsimp only [sched]; rw [role_bar]
omit [FloatOps F] in
theorem amount_end (d : Bool) : (sched (F := F) m).amount (eCell x c) 0 d = amt x.2 := by dsimp only [sched]; rw [role_osem]

omit [FloatOps F] in
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_end : (sched (F := F) m).expect (eCell x c) 0 = amt x.2 := by
  unfold Schedule.expect Schedule.amountOf; rw [duties_end, Finset.sum_singleton, amount_end]

omit [FloatOps F] in
theorem payload_bar (d : Bool) : (sched (F := F) m).payload (barCell c) 0 d = barPay d c := by dsimp only [sched]; rw [role_bar]
omit [FloatOps F] in
theorem payload_end (d : Bool) : (sched (F := F) m).payload (eCell x c) 0 d = endPay m x c := by dsimp only [sched]; rw [role_osem]

omit [FloatOps F] in
/-- What a whole round of each cell pays: the barrier's both neighbours' payloads, -/
theorem rest_bar : bigSep ((sched (F := F) m).duties (barCell c) 0 \ ∅) (fun d => (sched (F := F) m).payload (barCell c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
omit [FloatOps F] in
/-- a transfer's end its own. -/
theorem rest_end : bigSep ((sched (F := F) m).duties (eCell x c) 0 \ ∅) (fun d => (sched (F := F) m).payload (eCell x c) 0 d) = endPay m x c := by
  rw [Finset.sdiff_empty, duties_end, bigSep_singleton, payload_end]

end Sched

/-! ## What each device owes at launch; the levels -/

/-- What device `c` owes for the transfers it has yet to make, the next one first: each one's units at its target's cell. -/
def owedR (c : Dev nD) : List (Fin 6) → CellTallies nD τ sig Unit
  | [] => 0
  | j :: l => owedR c l + tallyAt (rCell j (pr j c)) () (amt j)

/-- The transfers in program order. -/
abbrev order : List (Fin 6) := [0, 2, 3, 4, 5, 1]

/-- After its first signal a device owes one unit to its neighbour along `y` and its transfers; -/
def O₁ (c : Dev nD) : CellTallies nD τ sig Unit := owedR c order + tallyAt (barCell (yp c)) () 1
/-- at launch, one unit to its neighbour along `x` as well. -/
def O₀ (c : Dev nD) : CellTallies nD τ sig Unit := O₁ c + tallyAt (barCell (xp c)) () 1

def L (g : GSem nD τ sig) : Finset Unit := if g.1.2 = .tc then {()} else ∅
/-- The barrier's cells at 1; the landings of the transfers along `x` at 2; the landing of the one along `y`, which is
    sent on only after one of those, at 3; everything else at 0. -/
def lv (g : GSem nD τ sig) (_ : Unit) : ℕ := match role g.2 with
  | some (true, 1) => 3
  | some (true, _) => 2
  | some (false, _) => 0
  | none => if g.2 = .reg barS then 1 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [role_bar]; exact if_pos rfl
theorem lv_r (j : Fin 6) (c : Dev nD) (u : Unit) : lv (rCell j c) u = if j = 1 then 3 else 2 := by
  dsimp only [lv]; rw [role_osem]; fin_cases j <;> rfl
theorem lv_other (c : Dev nD) {sm : SemLoc sig} (h : ∀ x, osem x ≠ sm) (hb : sm ≠ .reg barS) (u : Unit) : lv ((c : Thread nD τ), sm) u = 0 := by
  dsimp only [lv]; rw [role_none h]; exact if_neg hb

theorem owedR_pos {c : Dev nD} {l : List (Fin 6)} {g : GSem nD τ sig} {u : Unit} (h : 0 < owedR c l g u) : ∃ j ∈ l, g = rCell j (pr j c) := by
  induction l with
  | nil => exact absurd h (Nat.lt_irrefl 0)
  | cons j l ih =>
    unfold owedR at h
    rw [Pi.add_apply, Finsupp.add_apply, tallyAt_apply] at h
    by_cases hg : g = rCell j (pr j c)
    · exact ⟨j, List.mem_cons_self, hg⟩
    · rw [if_neg fun h' => hg h'.1, Nat.add_zero] at h
      obtain ⟨i, hi, e⟩ := ih h
      exact ⟨i, List.mem_cons_of_mem _ hi, e⟩

theorem O₀_pos {c : Dev nD} {g : GSem nD τ sig} {u : Unit} (h : 0 < O₀ c g u) : (∃ j, g = rCell j (pr j c)) ∨ ∃ d, g = barCell d := by
  unfold O₀ O₁ at h
  rw [Pi.add_apply, Finsupp.add_apply, Pi.add_apply, Finsupp.add_apply, tallyAt_apply, tallyAt_apply] at h
  by_contra hn
  rw [not_or, not_exists, not_exists] at hn
  rw [if_neg (fun h' => hn.2 _ h'.1), if_neg (fun h' => hn.2 _ h'.1)] at h
  rw [Nat.add_zero] at h
  obtain ⟨j, -, e⟩ := owedR_pos h
  exact hn.1 j e

omit [FloatOps F] in
/-- A device may wait on a cell at a level below every cell it owes. -/
theorem mayWait_of (c : Dev nD) (sm : SemLoc sig) (n : ℕ) (O : CellTallies nD τ sig Unit) (hsm : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

omit [FloatOps F] in
/-- The staging pipeline's waits come below everything, or with nothing owed. -/
theorem mayWait_stage (c : Dev nD) (q : DmaSem sig) (hq : ∀ x, osem x ≠ .dma q) (O : CellTallies nD τ sig Unit) (hO : O = O₀ c ∨ O = 0) :
    (levAts L lv : sProp 𝕄) ⊢ MayWait (c : Thread nD τ) (.dma q) () O := by
  rcases hO with rfl | rfl
  · refine mayWait_of c _ 0 _ (lv_other c hq (fun h => by cases h) ()).le fun g u hg => ?_
    rcases O₀_pos hg with ⟨j, rfl⟩ | ⟨d, rfl⟩
    · exact ⟨rfl, by rw [lv_r]; split <;> decide⟩
    · exact ⟨rfl, by rw [lv_bar]; decide⟩
  · rw [MayWait_zero]; iintro -; iempintro

omit [FloatOps F] in
/-- At its barrier wait a device owes its transfers, all above the barrier. -/
theorem mayWait_bar (c : Dev nD) (l : List (Fin 6)) : (levAts L lv : sProp 𝕄) ⊢ MayWait (c : Thread nD τ) (.reg barS) () (owedR c l) :=
  mayWait_of c _ 1 _ (lv_bar c ()).le fun g u hg => by
    obtain ⟨j, -, rfl⟩ := owedR_pos hg
    exact ⟨rfl, by rw [lv_r]; split <;> decide⟩

omit [FloatOps F] in
/-- At its wait for the rows from its neighbour along `x` a device owes the transfer along `y` only, above it. -/
theorem mayWait_r0 (c : Dev nD) : (levAts L lv : sProp 𝕄) ⊢ MayWait (c : Thread nD τ) (osem (true, 0)) () (owedR c [1]) :=
  mayWait_of c _ 2 _ (by rw [lv_r]; decide) fun g u hg => by
    obtain ⟨j, hj, rfl⟩ := owedR_pos hg
    rw [List.mem_singleton.mp hj]
    exact ⟨rfl, by rw [lv_r]; decide⟩

/-! ## What a device's body starts from -/

/-- Every cell's invariant, under the names `K` the launch allocated them at, and that each cell has reached round 0. -/
def records (K : Dev nD × KIx → ℕ) : sProp 𝕄 :=
  iprop((bigSep Finset.univ fun ck : Dev nD × KIx => cellInv ER (sched m) (K ck) (kcell ck))
    ∗ bigSep Finset.univ fun ck : Dev nD × KIx => reached ER (kcell ck) 0)

omit [FloatOps F] in
instance records_persistent (K : Dev nD × KIx → ℕ) : BI.Persistent (records m K) := by unfold records; infer_instance

omit [FloatOps F] in
theorem inv_at (K : Dev nD × KIx → ℕ) (ck : Dev nD × KIx) : records m K ⊢ cellInv ER (sched m) (K ck) (kcell ck) := by
  unfold records; iintro ⟨H, -⟩;
  iapply (show (bigSep Finset.univ fun ck : Dev nD × KIx => (cellInv ER (sched m) (K ck) (kcell ck) : sProp 𝕄)) ⊢ _ from bigSep_elim (Finset.mem_univ ck)); iexact H
omit [FloatOps F] in
theorem reached_at (K : Dev nD × KIx → ℕ) (ck : Dev nD × KIx) : records m K ⊢ reached ER (kcell ck) 0 := by
  unfold records; iintro ⟨-, H⟩;
  iapply (show (bigSep Finset.univ fun ck : Dev nD × KIx => (reached ER (kcell ck) 0 : sProp 𝕄)) ⊢ _ from bigSep_elim (Finset.mem_univ ck)); iexact H

/-- The duties of one device's cells: its barrier's two, and one at either end of each transfer. -/
abbrev Duty : Type := Bool ⊕ (Bool × Fin 6)
/-- Duty `t` of device `c`'s cells: its cell, its round, its name there. -/
def tokOf (ct : Dev nD × Duty) : GSem nD τ sig × ℕ × Bool := match ct.2 with
  | .inl b => (barCell ct.1, 0, b)
  | .inr x => (eCell x ct.1, 0, false)
/-- The device whose cell the payer of a duty `t`, device `c`, pays — and, the neighbours being mutual, the payer of
    device `c`'s own. -/
def dst : Duty → Dev nD → Dev nD
  | .inl false => xp
  | .inl true => yp
  | .inr (false, _) => id
  | .inr (true, j) => pr j
theorem dst_dst (t : Duty) (c : Dev nD) : dst t (dst t c) = c := by revert t c; decide

/-- The token of the duty `t` device `c` pays. -/
abbrev payTok (c : Dev nD) (t : Duty) : sProp 𝕄 := dutyTok ER (tokOf (dst t c, t)).1 (tokOf (dst t c, t)).2.1 (tokOf (dst t c, t)).2.2
/-- All the tokens device `c` pays with. -/
def payToks (c : Dev nD) : sProp 𝕄 := bigSep Finset.univ fun t : Duty => payTok c t

/-- What device `c` holds of the exchange when its body starts: the records, its cells' positions, its tokens. -/
def ghost (K : Dev nD × KIx → ℕ) (c : Dev nD) : sProp 𝕄 :=
  iprop(records m K ∗ (bigSep Finset.univ fun k : KIx => atPos ER (kcell (c, k)) 0 ∅ 0) ∗ payToks c)

/-- The credit a device is launched with: its barrier's two units and each landing's. -/
def credit (c : Dev nD) : sProp 𝕄 :=
  iprop(cred (tallyAt (barCell c) () 2) ∗ bigSep Finset.univ fun j : Fin 6 => cred (tallyAt (rCell j c) () (amt j)))

/-- What device `c`'s body starts from: that at some names, its credit and the level facts. -/
def start (c : Dev nD) : sProp 𝕄 := iprop((∃ K, ghost m K c) ∗ credit c ∗ levAts L lv)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_ends (Φ : Bool × Fin 6 → sProp 𝕄) :
    bigSep Finset.univ Φ = iprop((bigSep Finset.univ fun j => Φ (false, j)) ∗ bigSep Finset.univ fun j => Φ (true, j)) := by
  rw [bigSep_univ_prod, bigSep_univ_eq_bigSepL [false, true] (by decide) (by decide)]; rfl
omit [FloatOps F] in
theorem bigSep_cells (Φ : KIx → sProp 𝕄) : bigSep Finset.univ Φ = iprop(Φ none ∗ bigSep Finset.univ fun x => Φ (some x)) := by
  rw [bigSep_univ_at _ none]
  refine congrArg (fun P => iprop(Φ none ∗ P)) ?_
  rw [show (Finset.univ.erase none : Finset KIx) = Finset.univ.map Function.Embedding.some by decide, bigSep_map]; rfl
omit [FloatOps F] in
theorem bigSep_duties (Φ : Duty → sProp 𝕄) :
    bigSep Finset.univ Φ = iprop((Φ (.inl false) ∗ Φ (.inl true)) ∗ bigSep Finset.univ fun x => Φ (.inr x)) := by
  rw [BI.bigSep_univ_sum, bigSep_univ_eq_bigSepL [false, true] (by decide) (by decide) fun b => Φ (.inl b)]; rfl

end Cert.Exchange

end
-- ==== Proof.Steps.lean ====
/-
# The steps of the exchange

The rules the body's run is stepped with, one for each kind of step of the kernel: filling a piece of a send buffer,
a transfer, a wait at either end of one, one piece of the second product added in and stored. And the geometry they need:
the two halves of the rows, the four column pieces, and what a write through a piece leaves under it.
-/
module

public import proofs.«01_k».proof.Proof.Common

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Geometry -/

theorem xp_val (c : Dev nD) : (xp c).val = (c.val % 2 + 2) - 2 * (c.val / 2) := rfl
theorem yp_val (c : Dev nD) : (yp c).val = (2 * (c.val / 2) + 1) - c.val % 2 := rfl
theorem dev_lt (c : Dev nD) : c.val < 4 := c.isLt

theorem mem_row (d : Dev nD) (i : S768x384.Idx) :
    i ∈ (rowR d).set ↔ 384 * (d.val % 2) ≤ (i 0 : Nat) ∧ (i 0 : Nat) < 384 * (d.val % 2) + 384 := by
  rw [Rect.mem_set_unit, k0_off1_eq, Fin.forall_fin_two]
  have h1 : (i 1 : Nat) < 384 := (i 1).isLt
  show (384 * (d.val % 2) ≤ (i 0 : Nat) ∧ (i 0 : Nat) < 384 * (d.val % 2) + 384) ∧ (0 ≤ (i 1 : Nat) ∧ (i 1 : Nat) < 0 + 384) ↔ _
  omega

theorem row_xp (c : Dev nD) : (rowR (xp c)).set = (rowR c).set := by
  ext i; rw [mem_row, mem_row, xp_val]; have := dev_lt c; constructor <;> (intro h; omega)
theorem row_compl (c : Dev nD) : Finset.univ \ (rowR c).set = (rowR (yp c)).set := by
  ext i; rw [Finset.mem_sdiff, mem_row, mem_row, yp_val]
  have := dev_lt c; have h0 : (i 0 : Nat) < 768 := (i 0).isLt
  constructor
  · rintro ⟨-, h⟩; omega
  · intro h; exact ⟨Finset.mem_univ _, by omega⟩

/-- The four column pieces by number. -/
def colS : Fin 4 → Finset S384x768.Idx
  | 0 => col0.set
  | 1 => col1.set
  | 2 => col2.set
  | 3 => col3.set

theorem mem_col (k : Fin 4) (i : S384x768.Idx) :
    i ∈ colS k ↔ (![0, 256, 512, 640] k : Nat) ≤ (i 1 : Nat) ∧ (i 1 : Nat) < (![256, 512, 640, 768] k : Nat) := by
  have h0 : (i 0 : Nat) < 384 := (i 0).isLt
  fin_cases k <;>
  · refine Rect.mem_set_unit.trans ?_
    rw [Fin.forall_fin_two]
    exact ⟨fun h => h.2, fun h => ⟨⟨Nat.zero_le _, by simpa using h0⟩, h⟩⟩

theorem cols_disjoint (k k' : Fin 4) (h : k ≠ k') : Disjoint (colS k) (colS k') := by
  rw [Finset.disjoint_left]; intro i hi hi'
  rw [mem_col] at hi hi'
  fin_cases k <;> fin_cases k' <;> first | exact h rfl | (simp at hi hi'; omega)
theorem cols_cover : (Finset.univ.biUnion colS : Finset S384x768.Idx) = Finset.univ := by
  ext i; simp only [Finset.mem_biUnion, Finset.mem_univ, true_and, iff_true]
  have h1 : (i 1 : Nat) < 768 := (i 1).isLt
  by_cases ha : (i 1 : Nat) < 256; · exact ⟨0, (mem_col 0 i).mpr ⟨Nat.zero_le _, ha⟩⟩
  by_cases hb : (i 1 : Nat) < 512; · exact ⟨1, (mem_col 1 i).mpr ⟨by simpa using ha, hb⟩⟩
  by_cases hc : (i 1 : Nat) < 640; · exact ⟨2, (mem_col 2 i).mpr ⟨by simpa using hb, hc⟩⟩
  exact ⟨3, (mem_col 3 i).mpr ⟨by simpa using hc, h1⟩⟩

omit [FloatOps F] in
/-- A buffer of `B`'s block whole is its four column pieces. -/
theorem cols_split (b : Ref sig .tc) (c : Dev nD) (K : Fin 4 → Finset ((c : Thread nD τ).loc b).ty.Idx)
    (hd : ∀ k k', k ≠ k' → Disjoint (K k) (K k')) (hu : Finset.univ.biUnion K = Finset.univ) (q : PosShare TreeShare) (f : Buf (Elt F) ((c : Thread nD τ).loc b)) :
    (pt b c Finset.univ q f : sProp 𝕄) = iprop(pt b c (K 0) q f ∗ pt b c (K 1) q f ∗ pt b c (K 2) q f ∗ pt b c (K 3) q f) := by
  have h : (pt b c (Finset.univ.biUnion K) q f : sProp 𝕄) = bigSep Finset.univ fun k => pt b c (K k) q f :=
    pointsTo_biUnion _ _ fun t _ t' _ h => hd t t' h
  rw [← hu, h]; exact bigSep_univ_eq_bigSepL [0, 1, 2, 3] (by decide) (by decide) _
omit [FloatOps F] in
theorem bS_split (c : Dev nD) (q : PosShare TreeShare) (f : Buf (Elt F) ((c : Thread nD τ).loc cc0_scratch1)) :
    (pt cc0_scratch1 c Finset.univ q f : sProp 𝕄)
      = iprop(pt cc0_scratch1 c col0.set q f ∗ pt cc0_scratch1 c col1.set q f ∗ pt cc0_scratch1 c col2.set q f ∗ pt cc0_scratch1 c col3.set q f) :=
  cols_split cc0_scratch1 c colS cols_disjoint cols_cover q f
omit [FloatOps F] in
theorem bO_split (c : Dev nD) (q : PosShare TreeShare) (f : Buf (Elt F) ((c : Thread nD τ).loc cc0_scratch3)) :
    (pt cc0_scratch3 c Finset.univ q f : sProp 𝕄)
      = iprop(pt cc0_scratch3 c col0.set q f ∗ pt cc0_scratch3 c col1.set q f ∗ pt cc0_scratch3 c col2.set q f ∗ pt cc0_scratch3 c col3.set q f) :=
  cols_split cc0_scratch3 c colS cols_disjoint cols_cover q f

omit [FloatOps F] in
/-- Elements held whole are two half shares of them. -/
theorem halve (b : Ref sig .tc) (c : Dev nD) (S : Finset ((c : Thread nD τ).loc b).ty.Idx) (f : Buf (Elt F) ((c : Thread nD τ).loc b)) :
    (pt b c S fullShare f : sProp 𝕄) ⊣⊢ iprop(pt b c S hl f ∗ pt b c S hr f) :=
  pointsTo_share (PosShare.mem_left_op_right fullShare)

omit [FloatOps F] in
/-- The rows of a buffer of `A`'s block are the rows a device transfers and the rest. -/
theorem aS_rows (c d : Dev nD) (q : PosShare TreeShare) (f : Buf (Elt F) ((c : Thread nD τ).loc cc0_scratch0)) :
    (pt cc0_scratch0 c Finset.univ q f : sProp 𝕄) ⊣⊢ iprop(pt cc0_scratch0 c (rowR d).set q f ∗ pt cc0_scratch0 c (rowR (yp d)).set q f) := by
  rw [← row_compl]; exact pointsTo_split_subset (Finset.subset_univ _)
omit [FloatOps F] in
theorem aO_rows (c d : Dev nD) (q : PosShare TreeShare) (f : Buf (Elt F) ((c : Thread nD τ).loc cc0_scratch2)) :
    (pt cc0_scratch2 c Finset.univ q f : sProp 𝕄) ⊣⊢ iprop(pt cc0_scratch2 c (rowR d).set q f ∗ pt cc0_scratch2 c (rowR (yp d)).set q f) := by
  rw [← row_compl]; exact pointsTo_split_subset (Finset.subset_univ _)

omit [FloatOps F] in
/-- The elements of a buffer a load of a piece reads are the piece's. -/
theorem setOn_whole (b : Ref sig .tc) (r : Rect b.ty.shape) : (View.whole b).setOn r.toLoadRect.set = r.set :=
  (View.set_slice (View.whole b) r).symm.trans (View.set_slice_whole b r)

omit [FloatOps F] in
/-- A write through a piece of a buffer leaves, under the piece, what was written. -/
theorem write_under (b : Ref sig .tc) (r : Rect b.ty.shape) (f g : b.ty.Contents (Elt F)) (w : r.shape.Idx → Elt F b.ty.elt)
    (h : ∀ j, w j = g (r.emb j)) : ∀ i ∈ r.set, ((View.whole b).slice r).write (Elt F) f w Finset.univ i = g i := by
  intro i hi
  rw [← Rect.map_emb_univ, Finset.mem_map] at hi
  obtain ⟨j, -, rfl⟩ := hi
  exact (View.write_emb_of_mem (Val := Elt F) (v := (View.whole b).slice r) f w (Finset.mem_univ j)).trans (h j)

/-! ## The rules -/

abbrev 𝒱₀ : Variants := Variants.none

/-- What device `c` owes, whatever it has waited for. -/
def owesE (c : Dev nD) (O : CellTallies nD τ sig Unit) : sProp 𝕄 := iprop(∃ W, owes (c : Thread nD τ) O W)

section Rules
variable (K : Dev nD × KIx → ℕ) (c : Dev nD) {α : Type} {Q : α → sProp (MT nD τ sig Unit (Elt F) ℕ UU ℕ)} {k : PUnit → Prog (TpuEff nD τ sig (Elt F) Λ₀ .tc) α}

/-- Filling a piece of the send buffer of `B`: the piece is loaded and stored, the one holding what the other did. -/
theorem wp_fill (r : Rect S384x768) (p : (r.shape.Idx → Elt F .bf16) → r.shape.Idx → Elt F .bf16) (hp : ∀ v, p v = v)
    {hl₁ : (bIn : Memref sig .tc .vmem S384x768 .bf16).view.LoadsAt r.toLoadRect} {hl₂ : (bS : Memref sig .tc .vmem S384x768 .bf16).view.LoadsAt r.toLoadRect}
    {hx : ((bS : Memref sig .tc .vmem S384x768 .bf16).access r).Stores Finset.univ} {hm : (Finset.univ : Finset r.shape.Idx) = Finset.univ ∨ ∀ a, r.stride a = 1}
    (f : Buf (Elt F) ((c : Thread nD τ).loc cc0_scratch1)) :
    iprop(pt cc0_stg1_0 c Finset.univ fullShare (xB m c) ∗ pt cc0_scratch1 c r.set fullShare f)
      ⊢ iprop(((pt cc0_stg1_0 c Finset.univ fullShare (xB m c) ∗ pt cc0_scratch1 c r.set fullShare (xB m c)) -∗ wp frame (wpE (defs₀ (F := F)) 𝒱₀ (c : Thread nD τ) none) Set.univ (k ⟨⟩) Q)
        -∗ wp frame (wpE (defs₀ (F := F)) 𝒱₀ (c : Thread nD τ) none) Set.univ
            (.op (.load bIn r.toLoadRect hl₁) fun v => .op (.load bS r.toLoadRect hl₂) fun _ => .op (.store bS r (p v) Finset.univ hx hm) k) Q) := by
  have hset : ((bS : Memref sig .tc .vmem S384x768 .bf16).access r).setOn Finset.univ ⊆ r.set := by
    rw [View.setOn_univ]; exact (View.set_slice_whole cc0_scratch1 r).le
  iintro ⟨Hx, Hb⟩ Hk
  iapply (wp_load 𝒱₀ (c : Thread nD τ) none Set.univ (m := bIn) (Finset.subset_univ _)) $$ Hx; iintro Hx
  iapply (wp_load 𝒱₀ (c : Thread nD τ) none Set.univ (m := bS) (setOn_whole cc0_scratch1 r).le) $$ Hb; iintro Hb
  iapply (wp_store 𝒱₀ (c : Thread nD τ) none Set.univ (m := bS) (r := r) (Mk := Finset.univ) hset) $$ Hb; iintro Hb
  iapply Hk
  isplitl [Hx]; · iexact Hx
  rw [hp]
  iapply (Entails.of_eq (pointsTo_congr (ℓ := (c : Thread nD τ).loc cc0_scratch1) (write_under cc0_scratch1 r f (xB m c)
    ((bIn : Memref sig .tc .vmem S384x768 .bf16).view.readAt (Elt F) r.toLoadRect (xB m c)) fun _ => rfl)))
  iexact Hb

omit [FloatOps F] in
theorem mem_end (x : Bool × Fin 6) : false ∈ (sched (F := F) m).duties (eCell x c) 0 := by rw [duties_end]; exact Finset.mem_singleton_self _
omit [FloatOps F] in
theorem send_pay (j : Fin 6) : (sched (F := F) m).payload (eCell (false, j) c) 0 false = sendPay m j c := payload_end m c (false, j) false
omit [FloatOps F] in
theorem recv_pay (j : Fin 6) : (sched (F := F) m).payload (eCell (true, j) c) 0 false = recvPay m j c := payload_end m c (true, j) false

/-- Transfer `j`: a share of the source lent, the target's elements given, what both ends' waits are to receive. -/
theorem wp_xfer (j : Fin 6) (l : List (Fin 6)) (n : Dev nD) (hn : n = pr j c) {s : Shape} {src dst : Memref sig .tc .vmem s .bf16} (s1 s2 : DmaSem sig)
    (h1 : s1 = sS j) (h2 : s2 = rS j) (hN : dst.view.dmaCredit = amt j)
    {hsc : dst.view.ref.isScScratch = false} {hsrc : src.view.WordExact} {hdst : dst.view.WordExact}
    {hsem : DmaTarget.Typed .vmem (.dma s2) (.remote (Dev.tc n : Thread nD τ) dst (.dma s1) hsc)}
    (q : PosShare TreeShare) (fs : Buf (Elt F) (src.view.loc (c : Thread nD τ))) (fd : Buf (Elt F) (dst.view.loc (pr j c : Thread nD τ)))
    (hpay₁ : (src.view.loc (c : Thread nD τ) ↦[src.view.set]{q} fs : sProp 𝕄) ⊢ sendPay m j c)
    (hpay₂ : (dst.view.loc (pr j c : Thread nD τ) ↦[dst.view.set]{fullShare} (dst.view.write (Elt F) fd (src.view.read (Elt F) fs) Finset.univ) : sProp 𝕄) ⊢ recvPay m j (pr j c)) :
    iprop(records m K ∗ (src.view.loc (c : Thread nD τ) ↦[src.view.set]{q} fs) ∗ (dst.view.loc (pr j c : Thread nD τ) ↦[dst.view.set]{fullShare} fd)
        ∗ owesE c (owedR c (j :: l)) ∗ payTok c (.inr (false, j)) ∗ payTok c (.inr (true, j)))
      ⊢ iprop(((cred (tallyAt (eCell (false, j) c) () (amt j)) ∗ owesE c (owedR c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) k) Q) := by
  subst hn h1 h2
  unfold owesE
  iintro ⟨#HR, Hs, Hd, ⟨%W, HO⟩, Ht1, Ht2⟩ Hk
  iapply (Rounds.wp_send_pointsTo 𝒱₀ ER (sched m) (c : Thread nD τ) none (κ₁ := K (c, some (false, j))) (κ₂ := K (pr j c, some (true, j)))
    (r₁ := 0) (r₂ := 0) (d₁ := false) (d₂ := false) (fd := fd)
    (mem_end m c (false, j)) (mem_end m (pr j c) (true, j))
    () () (amt j) hN (amount_end m c (false, j) false) (amount_end m (pr j c) (true, j) false) (owedR c l) rfl (W := W)
    (hpay₁.trans (Entails.of_eq (send_pay m c j).symm)) (hpay₂.trans (Entails.of_eq (recv_pay m (pr j c) j).symm))) $$ [Hs Hd HO Ht1 Ht2]
  · isplitr; · iapply (inv_at m K (c, some (false, j))); iexact HR
    isplitr; · iapply (inv_at m K (pr j c, some (true, j))); iexact HR
    isplitl [Hs]; · iexact Hs
    isplitl [Hd]; · iexact Hd
    isplitl [HO]; · iexact HO
    isplitl [Ht1]; · iexact Ht1
    isplitr; · iapply (reached_at m K (c, some (false, j))); iexact HR
    isplitl [Ht2]; · iexact Ht2
    iapply (reached_at m K (pr j c, some (true, j))); iexact HR
  iintro ⟨Hc, HO⟩
  iapply Hk
  isplitl [Hc]; · iexact Hc
  iexists W; iexact HO

/-- The wait at an end `x` of a transfer: its cell's round is over, and what it pays is the device's. -/
theorem wp_await (x : Bool × Fin 6) (O : CellTallies nD τ sig Unit) (hmay : (levAts L lv : sProp 𝕄) ⊢ MayWait (c : Thread nD τ) (osem x) () O)
    {s : Shape} {src dst : Memref sig .tc .vmem s .bf16} (sm : DmaSem sig) (hsm : SemLoc.dma sm = osem x) (hN : dst.view.dmaCredit = amt x.2)
    {hsrc : src.view.WordExact} {hdst : dst.view.WordExact} :
    iprop(records m K ∗ levAts L lv ∗ cred (tallyAt (eCell x c) () (amt x.2)) ∗ owesE c O ∗ atPos ER (eCell x c) 0 ∅ 0)
      ⊢ iprop(((owesE c O ∗ atPos ER (eCell x c) 1 ∅ 0 ∗ endPay m x c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have hexp := expect_end m c x
  have hinv : records m K ⊢ cellInv ER (sched m) (K (c, some x)) (eCell x c) := inv_at m K (c, some x)
  have hrest := rest_end m c x
  dsimp only [eCell] at hexp hinv hrest ⊢
  rw [← hsm] at hexp hinv hrest hmay ⊢
  rw [← hN] at hexp ⊢
  unfold owesE
  iintro ⟨#HR, #Hlev, Hc, ⟨%W, HO⟩, Hat⟩ Hk
  iapply (Rounds.wp_wait_rest_token 𝒱₀ ER (sched m) (c : Thread nD τ) none (κ := K (c, some x))
      (wpE_waitDma2_eq 𝒱₀ (c : Thread nD τ) none Set.univ) (Set.mem_univ _) () (O := O) (W := W) (R := 0) (m := 0) (T := ∅)
      (by rw [Nat.zero_add, hexp])) $$ [Hc HO Hat]
  · isplitr; · iapply hinv; iexact HR
    isplitl [Hc]; · iexact Hc
    isplitl [HO]; · iexact HO
    isplitr; · iapply hmay; iexact Hlev
    iexact Hat
  iintro ⟨HO, Hat, -, Hpay⟩
  iapply Hk
  isplitl [HO]; · iexists _; iexact HO
  isplitl [Hat]; · iexact Hat
  ihave Hp := (Entails.of_eq hrest) $$ Hpay
  iexact Hp

/-- A piece of the second product: rows of the received `A`, columns of the received `B` and the piece of the first
    product are loaded, and their combination `p` stored in that piece of the result. -/
theorem wp_piece (rA : Rect S768x384) (rB : Rect S384x768) (rO : Rect S768x768)
    (p : (rA.shape.Idx → Elt F .bf16) → (rB.shape.Idx → Elt F .bf16) → (rO.shape.Idx → Elt F .f32) → rO.shape.Idx → Elt F .bf16)
    {h₁ : (aO : Memref sig .tc .vmem S768x384 .bf16).view.LoadsAt rA.toLoadRect} {h₂ : (bO : Memref sig .tc .vmem S384x768 .bf16).view.LoadsAt rB.toLoadRect}
    {h₃ : (accM : Memref sig .tc .vmem S768x768 .f32).view.LoadsAt rO.toLoadRect} {h₄ : (oM : Memref sig .tc .vmem S768x768 .bf16).view.LoadsAt rO.toLoadRect}
    {hx : ((oM : Memref sig .tc .vmem S768x768 .bf16).access rO).Stores Finset.univ} {hm : (Finset.univ : Finset rO.shape.Idx) = Finset.univ ∨ ∀ a, rO.stride a = 1}
    (SA : Finset S768x384.Idx) (hA : rA.set ⊆ SA) (q : PosShare TreeShare) (fA : Buf (Elt F) ((c : Thread nD τ).loc cc0_scratch2)) (fB : Buf (Elt F) ((c : Thread nD τ).loc cc0_scratch3))
    (fC : Buf (Elt F) ((c : Thread nD τ).loc cc0_scratch4)) (fO : Buf (Elt F) ((c : Thread nD τ).loc cc0_stg2_0)) :
    iprop(pt cc0_scratch2 c SA q fA ∗ pt cc0_scratch3 c rB.set fullShare fB ∗ pt cc0_scratch4 c Finset.univ fullShare fC ∗ pt cc0_stg2_0 c Finset.univ fullShare fO)
      ⊢ iprop(((pt cc0_scratch2 c SA q fA ∗ pt cc0_scratch3 c rB.set fullShare fB ∗ pt cc0_scratch4 c Finset.univ fullShare fC
            ∗ pt cc0_stg2_0 c Finset.univ fullShare (((oM : Memref sig .tc .vmem S768x768 .bf16).access rO : View sig .tc _ _ _).write (Elt F) fO
                (p ((aO : Memref sig .tc .vmem S768x384 .bf16).view.readAt (Elt F) rA.toLoadRect fA) ((bO : Memref sig .tc .vmem S384x768 .bf16).view.readAt (Elt F) rB.toLoadRect fB)
                  ((accM : Memref sig .tc .vmem S768x768 .f32).view.readAt (Elt F) rO.toLoadRect fC)) Finset.univ))
            -∗ wp frame (wpE (defs₀ (F := F)) 𝒱₀ (c : Thread nD τ) none) Set.univ (k ⟨⟩) Q)
        -∗ wp frame (wpE (defs₀ (F := F)) 𝒱₀ (c : Thread nD τ) none) Set.univ
            (.op (.load aO rA.toLoadRect h₁) fun a => .op (.load bO rB.toLoadRect h₂) fun b => .op (.load accM rO.toLoadRect h₃) fun x =>
              .op (.load oM rO.toLoadRect h₄) fun _ => .op (.store oM rO (p a b x) Finset.univ hx hm) k) Q) := by
  iintro ⟨Ha, Hb, Hc, Ho⟩ Hk
  iapply (wp_load 𝒱₀ (c : Thread nD τ) none Set.univ (m := aO) ((setOn_whole cc0_scratch2 rA).le.trans hA)) $$ Ha; iintro Ha
  iapply (wp_load 𝒱₀ (c : Thread nD τ) none Set.univ (m := bO) (setOn_whole cc0_scratch3 rB).le) $$ Hb; iintro Hb
  iapply (wp_load 𝒱₀ (c : Thread nD τ) none Set.univ (m := accM) (Finset.subset_univ _)) $$ Hc; iintro Hc
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  iapply Hk
  isplitl [Ha]; · iexact Ha
  isplitl [Hb]; · iexact Hb
  isplitl [Hc]; · iexact Hc
  iexact Ho

omit [FloatOps F] in
/-- Every cell's round over, its counter at zero is the device's again. -/
theorem close_all :
    iprop(records m K ∗ bigSep Finset.univ fun k : KIx => atPos ER (kcell (c, k)) 1 ∅ 0)
      ⊢ (|={Set.univ}=> bigSep Finset.univ fun k : KIx => semVal (kcell (c, k)) 0 : sProp 𝕄) := by
  have h (k : KIx) : iprop(records m K ∗ atPos ER (kcell (c, k)) 1 ∅ 0) ⊢ (|={Set.univ}=> semVal (kcell (c, k)) 0 : sProp 𝕄) := by
    iintro ⟨#HR, Hat⟩
    imod (Rounds.cell_close ER (sched m) (Set.mem_univ (K (c, k))) (fun h => h) (R := 1) (duties_later m (kcell (c, k)))) $$ [Hat] with Hz
    · isplitr; · iapply (inv_at m K (c, k)); iexact HR
      iexact Hat
    imodintro; iexact Hz
  refine (sep_mono_left (BI.bigSep_of_persistent (Finset.univ : Finset KIx) (records m K))).trans ?_
  rw [← bigSep_sep']
  exact (bigSep_mono fun k _ => h k).trans (bigSep_fupd _ _)

end Rules

end Cert.Exchange

end
-- ==== Proof.Body.lean ====
/-
# The kernel's run on one device

The kernel on device `c`, stepped in program order from what the launch gives it (`bodyPre`) to what it leaves
(`bodyPost`): its blocks of `A` and `B` as they were, the result's buffer at `outAt`, every scratch buffer whole again and
every semaphore counter at zero. Each source of a transfer is lent at half a share and read by the device's own loads
through the other half; the waits on the sources give the halves back.
-/
module

public import proofs.«01_k».proof.Proof.Steps

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

/-- The first product, of the device's own blocks. -/
def accAt (c : Dev nD) : (cc0_scratch4 : Ref sig .tc).ty.Contents (Elt F) := k0_pay6 (xA m c) (xB m c)

/-- The rows of the received `A` a device got along `x`, -/
abbrev rowX (c : Dev nD) : Rect S768x384 := Rect.unit (s := S768x384) (k0_off2 c) S384x384.size (k0_off2_inb c)
/-- and along `y`. -/
abbrev rowY (c : Dev nD) : Rect S768x384 := Rect.unit (s := S768x384) (k0_off6 c) S384x384.size (k0_off6_inb c)

/-- The eight pieces of the result, in the order they are stored: rows got along `x` or `y`, times each column piece. -/
abbrev out1 (c : Dev nD) : Rect S768x768 := Rect.unit (s := S768x768) (k0_off3 c) S384x256.size (k0_off3_inb c)
abbrev out2 (c : Dev nD) : Rect S768x768 := Rect.unit (s := S768x768) (k0_off4 c) S384x256.size (k0_off4_inb c)
abbrev out3 (c : Dev nD) : Rect S768x768 := Rect.unit (s := S768x768) (k0_off5 c) S384x128.size (k0_off5_inb c)
abbrev out4 (c : Dev nD) : Rect S768x768 := Rect.unit (s := S768x768) (k0_off7 c) S384x256.size (k0_off7_inb c)
abbrev out5 (c : Dev nD) : Rect S768x768 := Rect.unit (s := S768x768) (k0_off8 c) S384x256.size (k0_off8_inb c)
abbrev out6 (c : Dev nD) : Rect S768x768 := Rect.unit (s := S768x768) (k0_off9 c) S384x128.size (k0_off9_inb c)
abbrev out7 (c : Dev nD) : Rect S768x768 := Rect.unit (s := S768x768) (k0_off10 c) S384x128.size (k0_off10_inb c)
abbrev out8 (c : Dev nD) : Rect S768x768 := Rect.unit (s := S768x768) (k0_off11 c) S384x128.size (k0_off11_inb c)

/-- A piece's value: rows `rA` of `fA`, columns `rB` of `fB` and piece `rO` of `fC`, combined by `p`. -/
abbrev pieceVal (rA : Rect S768x384) (rB : Rect S384x768) (rO : Rect S768x768)
    (p : (rA.shape.Idx → Elt F .bf16) → (rB.shape.Idx → Elt F .bf16) → (rO.shape.Idx → Elt F .f32) → rO.shape.Idx → Elt F .bf16)
    (fA : (cc0_scratch2 : Ref sig .tc).ty.Contents (Elt F)) (fB : (cc0_scratch3 : Ref sig .tc).ty.Contents (Elt F)) (fC : (cc0_scratch4 : Ref sig .tc).ty.Contents (Elt F)) :
    rO.shape.Idx → Elt F .bf16 :=
  p ((aO : Memref sig .tc .vmem S768x384 .bf16).view.readAt (Elt F) rA.toLoadRect fA) ((bO : Memref sig .tc .vmem S384x768 .bf16).view.readAt (Elt F) rB.toLoadRect fB)
    ((accM : Memref sig .tc .vmem S768x768 .f32).view.readAt (Elt F) rO.toLoadRect fC)

/-- The result's buffer with piece `r` stored. -/
abbrev put (r : Rect S768x768) (w : r.shape.Idx → Elt F .bf16) (f : (cc0_stg2_0 : Ref sig .tc).ty.Contents (Elt F)) : (cc0_stg2_0 : Ref sig .tc).ty.Contents (Elt F) :=
  ((oM : Memref sig .tc .vmem S768x768 .bf16).access r : View sig .tc _ _ _).write (Elt F) f w Finset.univ

/-- The pieces' values on device `c`: the rows got along `x` are its neighbour's along `x`, the others that of its
    neighbour along `y`. -/
def val1 (c : Dev nD) : (out1 c).shape.Idx → Elt F .bf16 := pieceVal (rowX c) col0 (out1 c) k0_pay7 (xA m (xp c)) (xB m (xp c)) (accAt m c)
def val2 (c : Dev nD) : (out2 c).shape.Idx → Elt F .bf16 := pieceVal (rowX c) col1 (out2 c) k0_pay8 (xA m (xp c)) (xB m (xp c)) (accAt m c)
def val3 (c : Dev nD) : (out3 c).shape.Idx → Elt F .bf16 := pieceVal (rowX c) col2 (out3 c) k0_pay9 (xA m (xp c)) (xB m (xp c)) (accAt m c)
def val4 (c : Dev nD) : (out4 c).shape.Idx → Elt F .bf16 := pieceVal (rowY c) col0 (out4 c) k0_pay10 (xA m (xp (yp c))) (xB m (xp c)) (accAt m c)
def val5 (c : Dev nD) : (out5 c).shape.Idx → Elt F .bf16 := pieceVal (rowY c) col1 (out5 c) k0_pay11 (xA m (xp (yp c))) (xB m (xp c)) (accAt m c)
def val6 (c : Dev nD) : (out6 c).shape.Idx → Elt F .bf16 := pieceVal (rowY c) col2 (out6 c) k0_pay12 (xA m (xp (yp c))) (xB m (xp c)) (accAt m c)
def val7 (c : Dev nD) : (out7 c).shape.Idx → Elt F .bf16 :=
  pieceVal (rowX c) col3 (out7 c) (fun a b => k0_pay14 (k0_pay13 a b)) (xA m (xp c)) (xB m (xp c)) (accAt m c)
def val8 (c : Dev nD) : (out8 c).shape.Idx → Elt F .bf16 := pieceVal (rowY c) col3 (out8 c) k0_pay15 (xA m (xp (yp c))) (xB m (xp c)) (accAt m c)

/-- The result's buffer, from contents `f`, once all eight pieces are stored. -/
def outFrom (c : Dev nD) (f : (cc0_stg2_0 : Ref sig .tc).ty.Contents (Elt F)) : (cc0_stg2_0 : Ref sig .tc).ty.Contents (Elt F) :=
  put (out8 c) (val8 m c) <| put (out7 c) (val7 m c) <| put (out6 c) (val6 m c) <| put (out5 c) (val5 m c) <|
    put (out4 c) (val4 m c) <| put (out3 c) (val3 m c) <| put (out2 c) (val2 m c) <| put (out1 c) (val1 m c) f

/-- The kernel's result on device `c` (whatever its buffer held before: `outFrom_eq`). -/
def outAt (c : Dev nD) : (cc0_stg2_0 : Ref sig .tc).ty.Contents (Elt F) := outFrom m c (m ((c : Thread nD τ).loc cc0_stg2_0))

/-- Every element of the result lies under one of the eight pieces. -/
theorem pieces_cover (c : Dev nD) (i : S768x768.Idx) :
    i ∈ (((((((((∅ : Finset S768x768.Idx) ∪ (out1 c).set) ∪ (out2 c).set) ∪ (out3 c).set) ∪ (out4 c).set) ∪ (out5 c).set) ∪ (out6 c).set) ∪ (out7 c).set) ∪ (out8 c).set) := by
  have h0 : (i 0 : Nat) < 768 := (i 0).isLt
  have h1 : (i 1 : Nat) < 768 := (i 1).isLt
  have hm (ro co rs cs : Nat) (off : Fin 2 → Nat) (size : Fin 2 → Nat) (inb) (ho : off = ![ro, co]) (hs : size = ![rs, cs]) :
      i ∈ (Rect.unit (s := S768x768) off size inb).set ↔ (ro ≤ (i 0 : Nat) ∧ (i 0 : Nat) < ro + rs) ∧ (co ≤ (i 1 : Nat) ∧ (i 1 : Nat) < co + cs) := by
    rw [Rect.mem_set_unit, Fin.forall_fin_two, ho, hs]; rfl
  simp only [Finset.mem_union]
  rw [hm _ _ 384 256 _ _ _ (k0_off3_eq c) rfl, hm _ _ 384 256 _ _ _ (k0_off4_eq c) rfl, hm _ _ 384 128 _ _ _ (k0_off5_eq c) rfl,
    hm _ _ 384 256 _ _ _ (k0_off7_eq c) rfl, hm _ _ 384 256 _ _ _ (k0_off8_eq c) rfl, hm _ _ 384 128 _ _ _ (k0_off9_eq c) rfl,
    hm _ _ 384 128 _ _ _ (k0_off10_eq c) rfl, hm _ _ 384 128 _ _ _ (k0_off11_eq c) rfl]
  omega

omit [FloatOps F] in
/-- Storing one piece, from contents that agree on `S` with `g` — with `g` itself, or with `g` stored the same — -/
theorem put_off (r : Rect S768x768) (w : r.shape.Idx → Elt F .bf16) (f : (cc0_stg2_0 : Ref sig .tc).ty.Contents (Elt F)) {i : S768x768.Idx} (hi : i ∉ r.set) :
    put r w f i = f i :=
  View.write_of_not_mem (Val := Elt F) (v := ((oM : Memref sig .tc .vmem S768x768 .bf16).access r : View sig .tc _ _ _)) f w Finset.univ
    (by rw [View.setOn_univ]; exact fun h => hi ((View.set_slice_whole cc0_stg2_0 r) ▸ h))

omit [FloatOps F] in
theorem put_spec {S : Finset S768x768.Idx} (r : Rect S768x768) (w : r.shape.Idx → Elt F .bf16) (f g : (cc0_stg2_0 : Ref sig .tc).ty.Contents (Elt F))
    (hw : ∀ j, w j = g (r.emb j)) (h : ∀ i ∈ S, f i = g i) : ∀ i ∈ S ∪ r.set, put r w f i = g i := by
  intro i hi
  by_cases hr : i ∈ r.set
  · exact write_under cc0_stg2_0 r f g w hw i hr
  · rw [put_off r w f hr]; exact h i ((Finset.mem_union.mp hi).resolve_right hr)

omit [FloatOps F] in
theorem put_congr {S : Finset S768x768.Idx} (r : Rect S768x768) (w : r.shape.Idx → Elt F .bf16) (f g : (cc0_stg2_0 : Ref sig .tc).ty.Contents (Elt F))
    (h : ∀ i ∈ S, f i = g i) : ∀ i ∈ S ∪ r.set, put r w f i = put r w g i := by
  intro i hi
  by_cases hr : i ∈ r.set
  · refine write_under cc0_stg2_0 r f _ w (fun j => ?_) i hr
    exact (View.write_emb_of_mem (Val := Elt F) (v := (View.whole cc0_stg2_0).slice r) g w (Finset.mem_univ j)).symm
  · rw [put_off r w f hr, put_off r w g hr]; exact h i ((Finset.mem_union.mp hi).resolve_right hr)

/-- The result does not depend on what its buffer held. -/
theorem outFrom_eq (c : Dev nD) (f : (cc0_stg2_0 : Ref sig .tc).ty.Contents (Elt F)) : outFrom m c f = outAt m c :=
  funext fun i => put_congr _ _ _ _ (put_congr _ _ _ _ (put_congr _ _ _ _ (put_congr _ _ _ _ (put_congr _ _ _ _ (put_congr _ _ _ _
    (put_congr _ _ _ _ (put_congr _ _ _ _ (S := ∅) fun _ h => absurd h (Finset.notMem_empty _)))))))) i (pieces_cover c i)

/-- Pieces that all agree with one function of the index make that function. -/
theorem outAt_spec (c : Dev nD) (g : (cc0_stg2_0 : Ref sig .tc).ty.Contents (Elt F))
    (h1 : ∀ j, val1 m c j = g ((out1 c).emb j)) (h2 : ∀ j, val2 m c j = g ((out2 c).emb j)) (h3 : ∀ j, val3 m c j = g ((out3 c).emb j))
    (h4 : ∀ j, val4 m c j = g ((out4 c).emb j)) (h5 : ∀ j, val5 m c j = g ((out5 c).emb j)) (h6 : ∀ j, val6 m c j = g ((out6 c).emb j))
    (h7 : ∀ j, val7 m c j = g ((out7 c).emb j)) (h8 : ∀ j, val8 m c j = g ((out8 c).emb j)) : outAt m c = g :=
  funext fun i => put_spec _ _ _ _ h8 (put_spec _ _ _ _ h7 (put_spec _ _ _ _ h6 (put_spec _ _ _ _ h5 (put_spec _ _ _ _ h4 (put_spec _ _ _ _ h3
    (put_spec _ _ _ _ h2 (put_spec _ _ _ _ h1 (S := ∅) fun _ h => absurd h (Finset.notMem_empty _)))))))) i (pieces_cover c i)

/-! ## The pipeline's proof data -/

def Φ₀ (c : Dev nD) : sProp 𝕄 := iprop(start m c ∗ Pipeline.scopedRest cfg0.spec c)
/-- After the point: the scratch buffers whole again, and every cell's counter at zero. -/
def Φ₁ (c : Dev nD) : sProp 𝕄 := iprop(Pipeline.scopedRest cfg0.spec c ∗ bigSep Finset.univ fun k : KIx => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => xB m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The run -/

theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = pr 0 c := Fin.ext (k0_dev3_eq c)
theorem dev4_eq (c : Dev nD) : (⟨k0_dev4 c, k0_dev4_lt c⟩ : Dev nD) = pr 2 c := Fin.ext (k0_dev4_eq c)
theorem dev5_eq (c : Dev nD) : (⟨k0_dev5 c, k0_dev5_lt c⟩ : Dev nD) = pr 3 c := Fin.ext (k0_dev5_eq c)
theorem dev6_eq (c : Dev nD) : (⟨k0_dev6 c, k0_dev6_lt c⟩ : Dev nD) = pr 4 c := Fin.ext (k0_dev6_eq c)
theorem dev7_eq (c : Dev nD) : (⟨k0_dev7 c, k0_dev7_lt c⟩ : Dev nD) = pr 5 c := Fin.ext (k0_dev7_eq c)
theorem dev8_eq (c : Dev nD) : (⟨k0_dev8 c, k0_dev8_lt c⟩ : Dev nD) = pr 1 c := Fin.ext (k0_dev8_eq c)

theorem rowX_set (c : Dev nD) : (rowX c).set = (rowR c).set := by
  ext i; rw [mem_row, Rect.mem_set_unit, k0_off2_eq, Fin.forall_fin_two]
  have h1 : (i 1 : Nat) < 384 := (i 1).isLt
  show (384 * (c.val % 2) ≤ (i 0 : Nat) ∧ (i 0 : Nat) < 384 * (c.val % 2) + 384) ∧ (0 ≤ (i 1 : Nat) ∧ (i 1 : Nat) < 0 + 384) ↔ _
  omega
theorem rowY_set (c : Dev nD) : (rowY c).set = (rowR (yp c)).set := by
  ext i; rw [mem_row, Rect.mem_set_unit, k0_off6_eq, Fin.forall_fin_two, yp_val]
  have h1 : (i 1 : Nat) < 384 := (i 1).isLt
  have := dev_lt c
  show (384 - 384 * (c.val % 2) ≤ (i 0 : Nat) ∧ (i 0 : Nat) < 384 - 384 * (c.val % 2) + 384) ∧ (0 ≤ (i 1 : Nat) ∧ (i 1 : Nat) < 0 + 384) ↔ _
  constructor <;> (intro h; omega)

end Cert.Exchange

end
-- ==== Proof.Run.lean ====
/-
# Rules for the run's larger steps
-/
module

public import proofs.«01_k».proof.Proof.Body
public import Idealize.ShloMosaic.Lib.Pipeline.Value

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KIx → ℕ) (c : Dev nD)

/-! ## The body's two ends -/

/-- A staging buffer whole, holding contents it is described by. -/
abbrev staged (b : Ref sig .tc) (X : b.ty.Contents (Elt F)) : sProp 𝕄 :=
  iprop(∃ f : Buf (Elt F) ((c : Thread nD τ).loc b), ⌜f = X⌝ ∗ (((c : Thread nD τ).loc b) ↦{fullShare} f))

/-- A scratch buffer whole, whatever it holds. -/
abbrev scratch (b : Ref sig .tc) : sProp 𝕄 := iprop(∃ f : Buf (Elt F) ((c : Thread nD τ).loc b), (((c : Thread nD τ).loc b) ↦{fullShare} f))

abbrev allScratch : sProp 𝕄 :=
  iprop(scratch c cc0_scratch0 ∗ scratch c cc0_scratch1 ∗ scratch c cc0_scratch2 ∗ scratch c cc0_scratch3 ∗ scratch c cc0_scratch4)

def bodyPre : sProp 𝕄 :=
  iprop((ghost m K c ∗ credit c ∗ levAts L lv ∗ allScratch c)
    ∗ (dats m 0 c).owesAt () t0_0.castSucc
    ∗ (∃ d, staged c cc0_stg0_0 ((dats m 0 c).before (0 : Fin 3) t0_0 d))
    ∗ (∃ d, staged c cc0_stg1_0 ((dats m 0 c).before (1 : Fin 3) t0_0 d))
    ∗ (∃ d, staged c cc0_stg2_0 ((dats m 0 c).before (2 : Fin 3) t0_0 d)))

def bodyPost : sProp 𝕄 :=
  iprop(Φ₁ c ∗ (dats m 0 c).owesAt () t0_0.succ ∗ staged c cc0_stg0_0 (xA m c) ∗ staged c cc0_stg1_0 (xB m c) ∗ staged c cc0_stg2_0 (outAt m c))

/-- The whole of a buffer, as one rectangle. -/
abbrev allA : Rect S768x384 := Rect.unit (s := S768x384) ![0, 0] S768x384.size inb_S768x384_S768x384_0_0
abbrev allB : Rect S384x768 := Rect.unit (s := S384x768) ![0, 0] S384x768.size inb_S384x768_S384x768_0_0
abbrev allC : Rect S768x768 := Rect.unit (s := S768x768) ![0, 0] S768x768.size inb_S768x768_S768x768_0_0

theorem hz2 : (![0, 0] : Fin 2 → Nat) = fun _ => 0 := by funext a; fin_cases a <;> rfl

/-- The copies into the send buffers store what they loaded. -/
theorem pay1_eq (v : S768x384.Idx → Elt F .bf16) : k0_pay1 v = v :=
  (shapeCast_self _ shapeCasts_S768x384_S768x384).trans (shapeCast_self v _)
theorem pay2_eq (v : S384x256.Idx → Elt F .bf16) : k0_pay2 v = v :=
  (shapeCast_self _ shapeCasts_S384x256_S384x256).trans (shapeCast_self v _)
theorem pay3_eq (v : S384x256.Idx → Elt F .bf16) : k0_pay3 v = v :=
  (shapeCast_self _ shapeCasts_S384x256_S384x256).trans (shapeCast_self v _)
theorem pay4_eq (v : S384x128.Idx → Elt F .bf16) : k0_pay4 v = v :=
  (shapeCast_self _ shapeCasts_S384x128_S384x128).trans (shapeCast_self v _)
theorem pay5_eq (v : S384x128.Idx → Elt F .bf16) : k0_pay5 v = v :=
  (shapeCast_self _ shapeCasts_S384x128_S384x128).trans (shapeCast_self v _)

omit [FloatOps F] in
theorem may_zero (sm : SemLoc sig) : (levAts L lv : sProp 𝕄) ⊢ MayWait (c : Thread nD τ) sm () 0 := by
  rw [MayWait_zero]; iintro -; iempintro

section Rules
variable {α : Type} {Q : α → sProp (MT nD τ sig Unit (Elt F) ℕ UU ℕ)} {k : PUnit → Prog (TpuEff nD τ sig (Elt F) Λ₀ .tc) α}

/-- Filling the send buffer of `A`, whole. -/
theorem wp_fillA (p : (S768x384.Idx → Elt F .bf16) → S768x384.Idx → Elt F .bf16) (hp : ∀ v, p v = v)
    {hl₁ : (aIn : Memref sig .tc .vmem S768x384 .bf16).view.LoadsAt allA.toLoadRect} {hl₂ : (aS : Memref sig .tc .vmem S768x384 .bf16).view.LoadsAt allA.toLoadRect}
    {hx : ((aS : Memref sig .tc .vmem S768x384 .bf16).access allA).Stores Finset.univ} {hm : (Finset.univ : Finset allA.shape.Idx) = Finset.univ ∨ ∀ a, allA.stride a = 1}
    (f : Buf (Elt F) ((c : Thread nD τ).loc cc0_scratch0)) :
    iprop(pt cc0_stg0_0 c Finset.univ fullShare (xA m c) ∗ pt cc0_scratch0 c Finset.univ fullShare f)
      ⊢ iprop(((pt cc0_stg0_0 c Finset.univ fullShare (xA m c) ∗ pt cc0_scratch0 c Finset.univ fullShare (xA m c)) -∗ wp frame (wpE (defs₀ (F := F)) 𝒱₀ (c : Thread nD τ) none) Set.univ (k ⟨⟩) Q)
        -∗ wp frame (wpE (defs₀ (F := F)) 𝒱₀ (c : Thread nD τ) none) Set.univ
            (.op (.load aIn allA.toLoadRect hl₁) fun v => .op (.load aS allA.toLoadRect hl₂) fun _ => .op (.store aS allA (p v) Finset.univ hx hm) k) Q) := by
  have e : ((aS : Memref sig .tc .vmem S768x384 .bf16).access allA : View sig .tc _ _ _).write (Elt F) f
      (p ((aIn : Memref sig .tc .vmem S768x384 .bf16).view.readAt (Elt F) allA.toLoadRect (xA m c))) Finset.univ = xA m c :=
    (Memref.write_access_unit_zero_univ (Elt F) cc0_scratch0 hz2 _ f _).trans ((hp _).trans (Memref.readAt_unit_zero (Elt F) cc0_stg0_0 hz2 _ (xA m c)))
  iintro ⟨Hx, Hb⟩ Hk
  iapply (wp_load 𝒱₀ (c : Thread nD τ) none Set.univ (m := aIn) (Finset.subset_univ _)) $$ Hx; iintro Hx
  iapply (wp_load 𝒱₀ (c : Thread nD τ) none Set.univ (m := aS) (Finset.subset_univ _)) $$ Hb; iintro Hb
  iapply (wp_store 𝒱₀ (c : Thread nD τ) none Set.univ (m := aS) (r := allA) (Mk := Finset.univ) (Finset.subset_univ _)) $$ Hb; iintro Hb
  iapply Hk
  isplitl [Hx]; · iexact Hx
  rw [e]; iexact Hb

/-- The first product, of the send buffers whole, stored whole. -/
theorem wp_first {h₁ : (aS : Memref sig .tc .vmem S768x384 .bf16).view.LoadsAt allA.toLoadRect} {h₂ : (bS : Memref sig .tc .vmem S384x768 .bf16).view.LoadsAt allB.toLoadRect}
    {h₃ : (accM : Memref sig .tc .vmem S768x768 .f32).view.LoadsAt allC.toLoadRect}
    {hx : ((accM : Memref sig .tc .vmem S768x768 .f32).access allC).Stores Finset.univ} {hm : (Finset.univ : Finset allC.shape.Idx) = Finset.univ ∨ ∀ a, allC.stride a = 1}
    (q : PosShare TreeShare) (f : Buf (Elt F) ((c : Thread nD τ).loc cc0_scratch4)) :
    iprop(pt cc0_scratch0 c Finset.univ q (xA m c) ∗ pt cc0_scratch1 c Finset.univ q (xB m c) ∗ pt cc0_scratch4 c Finset.univ fullShare f)
      ⊢ iprop(((pt cc0_scratch0 c Finset.univ q (xA m c) ∗ pt cc0_scratch1 c Finset.univ q (xB m c) ∗ pt cc0_scratch4 c Finset.univ fullShare (accAt m c))
            -∗ wp frame (wpE (defs₀ (F := F)) 𝒱₀ (c : Thread nD τ) none) Set.univ (k ⟨⟩) Q)
        -∗ wp frame (wpE (defs₀ (F := F)) 𝒱₀ (c : Thread nD τ) none) Set.univ
            (.op (.load aS allA.toLoadRect h₁) fun a => .op (.load bS allB.toLoadRect h₂) fun b => .op (.load accM allC.toLoadRect h₃) fun _ =>
              .op (.store accM allC (k0_pay6 a b) Finset.univ hx hm) k) Q) := by
  have e : ((accM : Memref sig .tc .vmem S768x768 .f32).access allC : View sig .tc _ _ _).write (Elt F) f
      (k0_pay6 ((aS : Memref sig .tc .vmem S768x384 .bf16).view.readAt (Elt F) allA.toLoadRect (xA m c))
        ((bS : Memref sig .tc .vmem S384x768 .bf16).view.readAt (Elt F) allB.toLoadRect (xB m c))) Finset.univ = accAt m c :=
    (Memref.write_access_unit_zero_univ (Elt F) cc0_scratch4 hz2 _ f _).trans
      (congrArg₂ (k0_pay6 (F := F)) (Memref.readAt_unit_zero (Elt F) cc0_scratch0 hz2 _ (xA m c)) (Memref.readAt_unit_zero (Elt F) cc0_scratch1 hz2 _ (xB m c)))
  iintro ⟨Ha, Hb, Hc⟩ Hk
  iapply (wp_load 𝒱₀ (c : Thread nD τ) none Set.univ (m := aS) (Finset.subset_univ _)) $$ Ha; iintro Ha
  iapply (wp_load 𝒱₀ (c : Thread nD τ) none Set.univ (m := bS) (Finset.subset_univ _)) $$ Hb; iintro Hb
  iapply (wp_load 𝒱₀ (c : Thread nD τ) none Set.univ (m := accM) (Finset.subset_univ _)) $$ Hc; iintro Hc
  iapply (wp_store 𝒱₀ (c : Thread nD τ) none Set.univ (m := accM) (r := allC) (Mk := Finset.univ) (Finset.subset_univ _)) $$ Hc; iintro Hc
  iapply Hk
  isplitl [Ha]; · iexact Ha
  isplitl [Hb]; · iexact Hb
  rw [e]; iexact Hc

omit [FloatOps F] in
/-- Elements of a buffer held through a slice of it. -/
theorem sliced (b : Ref sig .tc) (d : Dev nD) (r : Rect b.ty.shape) (h) (q : PosShare TreeShare) (f : Buf (Elt F) ((d : Thread nD τ).loc b)) :
    (pt b d r.set q f : sProp 𝕄) = (((Memref.whole b).slice r h).view.loc (d : Thread nD τ) ↦[((Memref.whole b).slice r h).view.set]{q} f) :=
  congrArg (fun S => (pt b d S q f : sProp 𝕄)) (View.set_slice_whole b r).symm

omit [FloatOps F] in
/-- A transfer landed in a slice of a buffer: the slice's elements hold what was sent. -/
theorem landed (b : Ref sig .tc) (d : Dev nD) (r : Rect b.ty.shape) (h) (fd g : Buf (Elt F) ((d : Thread nD τ).loc b))
    (w : r.shape.Idx → Elt F b.ty.elt) (hw : ∀ j, w j = g (r.emb j)) :
    (((Memref.whole b).slice r h).view.loc (d : Thread nD τ) ↦[((Memref.whole b).slice r h).view.set]{fullShare}
      (((Memref.whole b).slice r h).view.write (Elt F) fd w Finset.univ) : sProp 𝕄) = pt b d r.set fullShare g :=
  (sliced b d r h fullShare _).symm.trans (pointsTo_congr (ℓ := (d : Thread nD τ).loc b) (write_under b r fd g w hw))

/-- The transfer of a column piece `r` of `B`. -/
theorem wp_bx (j : Fin 6) (l : List (Fin 6)) (n : Dev nD) (hn : n = pr j c) (r : Rect S384x768) (hst : ∀ a, r.stride a = 1) (s1 s2 : DmaSem sig)
    (h1 : s1 = sS j) (h2 : s2 = rS j) (hN : ((bO : Memref sig .tc .vmem S384x768 .bf16).slice r hst).view.dmaCredit = amt j)
    (hs : (pt cc0_scratch1 c r.set hr (xB m c) : sProp 𝕄) = sendPay m j c)
    (ht : (pt cc0_scratch3 (pr j c) r.set fullShare (xB m c) : sProp 𝕄) = recvPay m j (pr j c))
    {hsc : ((bO : Memref sig .tc .vmem S384x768 .bf16).slice r hst).view.ref.isScScratch = false}
    {hsrc : ((bS : Memref sig .tc .vmem S384x768 .bf16).slice r hst).view.WordExact} {hdst : ((bO : Memref sig .tc .vmem S384x768 .bf16).slice r hst).view.WordExact}
    {hsem : DmaTarget.Typed .vmem (.dma s2) (.remote (Dev.tc n : Thread nD τ) ((bO : Memref sig .tc .vmem S384x768 .bf16).slice r hst) (.dma s1) hsc)}
    (fd : Buf (Elt F) ((pr j c : Thread nD τ).loc cc0_scratch3)) :
    iprop(records m K ∗ pt cc0_scratch1 c r.set hr (xB m c) ∗ pt cc0_scratch3 (pr j c) r.set fullShare fd
        ∗ owesE c (owedR c (j :: l)) ∗ payTok c (.inr (false, j)) ∗ payTok c (.inr (true, j)))
      ⊢ iprop(((cred (tallyAt (eCell (false, j) c) () (amt j)) ∗ owesE c (owedR c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((bS : Memref sig .tc .vmem S384x768 .bf16).slice r hst) (.remote (Dev.tc n : Thread nD τ) ((bO : Memref sig .tc .vmem S384x768 .bf16).slice r hst) (.dma s1) hsc) (.dma s2) hsrc hdst hsem) k) Q) := by
  iintro ⟨HR, Hs, Hd, HO, Ht1, Ht2⟩
  ihave Hs := (Entails.of_eq (sliced cc0_scratch1 c r hst hr (xB m c))) $$ Hs
  ihave Hd := (Entails.of_eq (sliced cc0_scratch3 (pr j c) r hst fullShare fd)) $$ Hd
  iapply (wp_xfer m K c j l n hn (src := (bS : Memref sig .tc .vmem S384x768 .bf16).slice r hst) (dst := (bO : Memref sig .tc .vmem S384x768 .bf16).slice r hst)
    s1 s2 h1 h2 hN hr (xB m c) fd (Entails.of_eq ((sliced cc0_scratch1 c r hst hr (xB m c)).symm.trans hs))
    (Entails.of_eq ((landed cc0_scratch3 (pr j c) r hst fd (xB m c) _ fun _ => rfl).trans ht))) $$ [HR Hs Hd HO Ht1 Ht2]
  isplitl [HR]; · iexact HR
  isplitl [Hs]; · iexact Hs
  isplitl [Hd]; · iexact Hd
  isplitl [HO]; · iexact HO
  isplitl [Ht1] <;> iassumption

omit [FloatOps F] in
/-- What lands in a neighbour's buffer, by the name the schedule has for it. -/
theorem recv_bx (S : Finset S384x768.Idx) :
    (pt cc0_scratch3 (xp c) S fullShare (xB m c) : sProp 𝕄) = pt cc0_scratch3 (xp c) S fullShare (xB m (xp (xp c))) := by rw [xp_xp]

omit [FloatOps F] in
/-- The rows landed along `x` -/
theorem land_ax (fd : Buf (Elt F) ((pr 0 c : Thread nD τ).loc cc0_scratch2)) :
    ((((aO : Memref sig .tc .vmem S768x384 .bf16).slice (rowR c) (fun _ => rfl)).view.loc (pr 0 c : Thread nD τ) ↦[((aO : Memref sig .tc .vmem S768x384 .bf16).slice (rowR c) (fun _ => rfl)).view.set]{fullShare}
      (((aO : Memref sig .tc .vmem S768x384 .bf16).slice (rowR c) (fun _ => rfl)).view.write (Elt F) fd
        (((aS : Memref sig .tc .vmem S768x384 .bf16).slice (rowR c) (fun _ => rfl)).view.read (Elt F) (xA m c)) Finset.univ)) : sProp 𝕄) = recvPay m 0 (pr 0 c) := by
  refine (landed cc0_scratch2 (xp c) (rowR c) (fun _ => rfl) fd (xA m c) _ fun _ => rfl).trans ?_
  show _ = pt cc0_scratch2 (xp c) (rowR (xp c)).set fullShare (xA m (xp (xp c)))
  rw [row_xp, xp_xp]
omit [FloatOps F] in
/-- and those landed along `y`. -/
theorem land_ay (fd : Buf (Elt F) ((pr 1 c : Thread nD τ).loc cc0_scratch2)) :
    ((((aO : Memref sig .tc .vmem S768x384 .bf16).slice (rowR c) (fun _ => rfl)).view.loc (pr 1 c : Thread nD τ) ↦[((aO : Memref sig .tc .vmem S768x384 .bf16).slice (rowR c) (fun _ => rfl)).view.set]{fullShare}
      (((aO : Memref sig .tc .vmem S768x384 .bf16).slice (rowR c) (fun _ => rfl)).view.write (Elt F) fd
        (((aO : Memref sig .tc .vmem S768x384 .bf16).slice (rowR c) (fun _ => rfl)).view.read (Elt F) (xA m (xp c))) Finset.univ)) : sProp 𝕄) = recvPay m 1 (pr 1 c) := by
  refine (landed cc0_scratch2 (yp c) (rowR c) (fun _ => rfl) fd (xA m (xp c)) _ fun _ => rfl).trans ?_
  show _ = pt cc0_scratch2 (yp c) (rowR (yp (yp c))).set fullShare (xA m (xp (yp (yp c))))
  rw [yp_yp]

/-- The units of each transfer, counted at either of its ends. -/
theorem credit_s (d : Dev nD) : ((aS : Memref sig .tc .vmem S768x384 .bf16).slice (rowR d) (fun _ => rfl)).view.dmaCredit = amt 0 := rfl
theorem credit_t0 : ((bO : Memref sig .tc .vmem S384x768 .bf16).slice col0 (fun _ => rfl)).view.dmaCredit = amt 2 := rfl
theorem credit_t1 : ((bO : Memref sig .tc .vmem S384x768 .bf16).slice col1 (fun _ => rfl)).view.dmaCredit = amt 3 := rfl
theorem credit_t2 : ((bO : Memref sig .tc .vmem S384x768 .bf16).slice col2 (fun _ => rfl)).view.dmaCredit = amt 4 := rfl
theorem credit_t3 : ((bO : Memref sig .tc .vmem S384x768 .bf16).slice col3 (fun _ => rfl)).view.dmaCredit = amt 5 := rfl
theorem credit_u0 : ((bS : Memref sig .tc .vmem S384x768 .bf16).slice col0 (fun _ => rfl)).view.dmaCredit = amt 2 := rfl
theorem credit_u1 : ((bS : Memref sig .tc .vmem S384x768 .bf16).slice col1 (fun _ => rfl)).view.dmaCredit = amt 3 := rfl
theorem credit_u2 : ((bS : Memref sig .tc .vmem S384x768 .bf16).slice col2 (fun _ => rfl)).view.dmaCredit = amt 4 := rfl
theorem credit_u3 : ((bS : Memref sig .tc .vmem S384x768 .bf16).slice col3 (fun _ => rfl)).view.dmaCredit = amt 5 := rfl
theorem credit_a (j : Dev nD) : ((aO : Memref sig .tc .vmem S768x384 .bf16).slice (rowR j) (fun _ => rfl)).view.dmaCredit = amt 0 := rfl

/-- The transfer along `x` of the rows of `A`, -/
theorem wp_ax (l : List (Fin 6)) (n : Dev nD) (hn : n = pr 0 c) (s1 s2 : DmaSem sig) (h1 : s1 = sS 0) (h2 : s2 = rS 0)
    {hsc : ((aO : Memref sig .tc .vmem S768x384 .bf16).slice (rowR c) (fun _ => rfl)).view.ref.isScScratch = false}
    {hsrc : ((aS : Memref sig .tc .vmem S768x384 .bf16).slice (rowR c) (fun _ => rfl)).view.WordExact} {hdst : ((aO : Memref sig .tc .vmem S768x384 .bf16).slice (rowR c) (fun _ => rfl)).view.WordExact}
    {hsem : DmaTarget.Typed .vmem (.dma s2) (.remote (Dev.tc n : Thread nD τ) ((aO : Memref sig .tc .vmem S768x384 .bf16).slice (rowR c) (fun _ => rfl)) (.dma s1) hsc)}
    (fd : Buf (Elt F) ((pr 0 c : Thread nD τ).loc cc0_scratch2)) :
    iprop(records m K ∗ pt cc0_scratch0 c (rowR c).set hr (xA m c) ∗ pt cc0_scratch2 (pr 0 c) (rowR c).set fullShare fd
        ∗ owesE c (owedR c (0 :: l)) ∗ payTok c (.inr (false, 0)) ∗ payTok c (.inr (true, 0)))
      ⊢ iprop(((cred (tallyAt (eCell (false, 0) c) () (amt 0)) ∗ owesE c (owedR c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((aS : Memref sig .tc .vmem S768x384 .bf16).slice (rowR c) (fun _ => rfl)) (.remote (Dev.tc n : Thread nD τ) ((aO : Memref sig .tc .vmem S768x384 .bf16).slice (rowR c) (fun _ => rfl)) (.dma s1) hsc) (.dma s2) hsrc hdst hsem) k) Q) := by
  iintro ⟨HR, Hs, Hd, HO, Ht1, Ht2⟩
  ihave Hs := (Entails.of_eq (sliced cc0_scratch0 c (rowR c) (fun _ => rfl) hr (xA m c))) $$ Hs
  ihave Hd := (Entails.of_eq (sliced cc0_scratch2 (pr 0 c) (rowR c) (fun _ => rfl) fullShare fd)) $$ Hd
  iapply (wp_xfer m K c 0 l n hn (src := (aS : Memref sig .tc .vmem S768x384 .bf16).slice (rowR c) (fun _ => rfl))
    (dst := (aO : Memref sig .tc .vmem S768x384 .bf16).slice (rowR c) (fun _ => rfl)) s1 s2 h1 h2 (credit_a c) hr (xA m c) fd
    (Entails.of_eq (sliced cc0_scratch0 c (rowR c) (fun _ => rfl) hr (xA m c)).symm) (Entails.of_eq (land_ax m c fd))) $$ [HR Hs Hd HO Ht1 Ht2]
  isplitl [HR]; · iexact HR
  isplitl [Hs]; · iexact Hs
  isplitl [Hd]; · iexact Hd
  isplitl [HO]; · iexact HO
  isplitl [Ht1] <;> iassumption

/-- and the transfer that carries the received rows on along `y`. -/
theorem wp_ay (l : List (Fin 6)) (n : Dev nD) (hn : n = pr 1 c) (s1 s2 : DmaSem sig) (h1 : s1 = sS 1) (h2 : s2 = rS 1)
    {hsc : ((aO : Memref sig .tc .vmem S768x384 .bf16).slice (rowR c) (fun _ => rfl)).view.ref.isScScratch = false}
    {hsrc : ((aO : Memref sig .tc .vmem S768x384 .bf16).slice (rowR c) (fun _ => rfl)).view.WordExact} {hdst : ((aO : Memref sig .tc .vmem S768x384 .bf16).slice (rowR c) (fun _ => rfl)).view.WordExact}
    {hsem : DmaTarget.Typed .vmem (.dma s2) (.remote (Dev.tc n : Thread nD τ) ((aO : Memref sig .tc .vmem S768x384 .bf16).slice (rowR c) (fun _ => rfl)) (.dma s1) hsc)}
    (fd : Buf (Elt F) ((pr 1 c : Thread nD τ).loc cc0_scratch2)) :
    iprop(records m K ∗ pt cc0_scratch2 c (rowR c).set hr (xA m (xp c)) ∗ pt cc0_scratch2 (pr 1 c) (rowR c).set fullShare fd
        ∗ owesE c (owedR c (1 :: l)) ∗ payTok c (.inr (false, 1)) ∗ payTok c (.inr (true, 1)))
      ⊢ iprop(((cred (tallyAt (eCell (false, 1) c) () (amt 1)) ∗ owesE c (owedR c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((aO : Memref sig .tc .vmem S768x384 .bf16).slice (rowR c) (fun _ => rfl)) (.remote (Dev.tc n : Thread nD τ) ((aO : Memref sig .tc .vmem S768x384 .bf16).slice (rowR c) (fun _ => rfl)) (.dma s1) hsc) (.dma s2) hsrc hdst hsem) k) Q) := by
  iintro ⟨HR, Hs, Hd, HO, Ht1, Ht2⟩
  ihave Hs := (Entails.of_eq (sliced cc0_scratch2 c (rowR c) (fun _ => rfl) hr (xA m (xp c)))) $$ Hs
  ihave Hd := (Entails.of_eq (sliced cc0_scratch2 (pr 1 c) (rowR c) (fun _ => rfl) fullShare fd)) $$ Hd
  iapply (wp_xfer m K c 1 l n hn (src := (aO : Memref sig .tc .vmem S768x384 .bf16).slice (rowR c) (fun _ => rfl))
    (dst := (aO : Memref sig .tc .vmem S768x384 .bf16).slice (rowR c) (fun _ => rfl)) s1 s2 h1 h2 (credit_a c) hr (xA m (xp c)) fd
    (Entails.of_eq (sliced cc0_scratch2 c (rowR c) (fun _ => rfl) hr (xA m (xp c))).symm) (Entails.of_eq (land_ay m c fd))) $$ [HR Hs Hd HO Ht1 Ht2]
  isplitl [HR]; · iexact HR
  isplitl [Hs]; · iexact Hs
  isplitl [Hd]; · iexact Hd
  isplitl [HO]; · iexact HO
  isplitl [Ht1] <;> iassumption

end Rules

end Cert.Exchange

end
-- ==== Proof.Sound.lean ====
/-
# The kernel's run on one device, stepped
-/
module

public import proofs.«01_k».proof.Proof.Run
public import Idealize.ShloMosaic.Lib.Pipeline.Value

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KIx → ℕ) (c : Dev nD)

omit [FloatOps F] in
/-- The received `A` is whole again, whatever its two halves hold. -/
theorem aO_join : iprop(pt cc0_scratch2 c (rowR c).set fullShare (xA m (xp c)) ∗ pt cc0_scratch2 c (rowR (yp c)).set fullShare (xA m (xp (yp c))))
    ⊢ (scratch c cc0_scratch2 : sProp 𝕄) := by
  have hd : Disjoint (rowR c).set (rowR (yp c)).set := by rw [← row_compl]; exact Finset.disjoint_sdiff
  have hu : (rowR c).set ∪ (rowR (yp c)).set = Finset.univ := by rw [← row_compl]; exact Finset.union_sdiff_of_subset (Finset.subset_univ _)
  refine (pointsTo_join hd).trans ?_
  rw [hu]
  iintro H; iexists _; iexact H

omit [FloatOps F] in
/-- The positions of a device's cells, each past its round. -/
theorem positions : iprop(atPos ER (kcell (c, none)) 1 ∅ 0
      ∗ (atPos ER (eCell (false, 0) c) 1 ∅ 0 ∗ atPos ER (eCell (false, 1) c) 1 ∅ 0 ∗ atPos ER (eCell (false, 2) c) 1 ∅ 0
        ∗ atPos ER (eCell (false, 3) c) 1 ∅ 0 ∗ atPos ER (eCell (false, 4) c) 1 ∅ 0 ∗ atPos ER (eCell (false, 5) c) 1 ∅ 0)
      ∗ atPos ER (eCell (true, 0) c) 1 ∅ 0 ∗ atPos ER (eCell (true, 1) c) 1 ∅ 0 ∗ atPos ER (eCell (true, 2) c) 1 ∅ 0
        ∗ atPos ER (eCell (true, 3) c) 1 ∅ 0 ∗ atPos ER (eCell (true, 4) c) 1 ∅ 0 ∗ atPos ER (eCell (true, 5) c) 1 ∅ 0)
    ⊢ (bigSep Finset.univ fun k : KIx => atPos ER (kcell (c, k)) 1 ∅ 0 : sProp 𝕄) := by
  rw [bigSep_cells, bigSep_ends, bigSep_fin6, bigSep_fin6]; exact Entails.refl _

set_option maxHeartbeats 400000 in
/-- The body, stepped from `bodyPre` to `bodyPost`, one rule per operation or group of operations. -/
theorem sound_body (Kt : PUnit → sProp (MT nD τ sig Unit (Elt F) ℕ UU ℕ)) :
    iprop(bodyPre m K c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _)
            cc0_scratch5 cc0_scratch6 cc0_scratch7 cc0_scratch8 cc0_scratch9 cc0_scratch10) Kt := by
  simp only [cc0_body_eq_skeleton]; unfold cc0_body_skel
  unfold bodyPre ghost credit payToks
  simp only [bigSep_cells, bigSep_duties, bigSep_ends, bigSep_fin6]
  iintro ⟨⟨⟨⟨#HR, ⟨HatB, ⟨Hp0, Hp1, Hp2, Hp3, Hp4, Hp5⟩, Hq0, Hq1, Hq2, Hq3, Hq4, Hq5⟩, ⟨HtX, HtY⟩, ⟨Hs0, Hs1, Hs2, Hs3, Hs4, Hs5⟩, Hr0, Hr1, Hr2, Hr3, Hr4, Hr5⟩,
    ⟨HcB, Hc0, Hc1, Hc2, Hc3, Hc4, Hc5⟩, #Hlev, ⟨%fAS, HAS⟩, ⟨%fBS, HBS⟩, ⟨%fAO, HAO⟩, ⟨%fBO, HBO⟩, ⟨%fC, HC⟩⟩,
    Ho, ⟨%d0, %g0, %hg0, Hx⟩, ⟨%d1, %g1, %hg1, Hy⟩, ⟨%d2, %g2, %hg2, Hout⟩⟩, Hk⟩
  have hx : g0 = xA m c := by rw [hg0]; unfold Dat.before; rw [if_pos (fetch0_0 t0_0)]; rfl
  have hy : g1 = xB m c := by rw [hg1]; unfold Dat.before; rw [if_pos (fetch0_1 t0_0)]; rfl
  subst hx hy
  unfold Dat.owesAt Pipeline.owesWithin
  icases Ho with ⟨%W, %hW, HO⟩
  rw [show (dats m 0 c).owed t0_0.castSucc = O₀ c from rfl]
  -- part 1
  simp only [k0_part1_eq_skeleton]; unfold k0_part1_skel
  simp only [semSignalWord, semWaitWord, Prog.lift, Prog.bind_op, Prog.bind_ret, Prog.pure_eq_ret, wp_deviceId, dev1_eq c, dev2_eq c]
  -- the signal to the neighbour along `x`: the rows of the received `A` and the received `B` it will write
  ihave HAO := ((aO_rows c c fullShare fAO).mp) $$ HAO
  icases HAO with ⟨HAOx, HAOy⟩
  iapply (Rounds.wp_signal 𝒱₀ ER (sched m) (c : Thread nD τ) none (dst := (xp c : Thread nD τ)) (κ := K (xp c, none))
      (d := false) (by rw [duties_bar]; exact Finset.mem_univ _) ((amount_bar m (xp c) false).trans (by decide)) () (O₁ c) rfl)
    $$ [HO HtX HAOx HBO]
  · isplitr; · iapply (inv_at m K (xp c, none)); iexact HR
    isplitl [HO]; · iexact HO
    isplitl [HtX]; · iexact HtX
    isplitl [HAOx HBO]
    · rw [payload_bar]; unfold barPay; rw [if_neg Bool.false_ne_true, xp_xp, row_xp]
      isplitl [HAOx]; · iexists fAO; iexact HAOx
      iexists fBO; iexact HBO
    · iapply (reached_at m K (xp c, none)); iexact HR
  iintro HO
  -- the signal to the neighbour along `y`: the rows it will write
  iapply (Rounds.wp_signal 𝒱₀ ER (sched m) (c : Thread nD τ) none (dst := (yp c : Thread nD τ)) (κ := K (yp c, none))
      (d := true) (by rw [duties_bar]; exact Finset.mem_univ _) ((amount_bar m (yp c) true).trans (by decide)) () (owedR c order) rfl)
    $$ [HO HtY HAOy]
  · isplitr; · iapply (inv_at m K (yp c, none)); iexact HR
    isplitl [HO]; · iexact HO
    isplitl [HtY]; · iexact HtY
    isplitl [HAOy]
    · rw [payload_bar]; unfold barPay; rw [if_pos rfl, yp_yp]
      iexists fAO; iexact HAOy
    · iapply (reached_at m K (yp c, none)); iexact HR
  iintro HO
  -- the block of `A` into its send buffer
  iapply (wp_fillA m c (k0_pay1 (F := F)) pay1_eq fAS) $$ [Hx HAS]
  · isplitl [Hx] <;> iassumption
  iintro ⟨Hx, HAS⟩
  -- the first piece of the block of `B` into its send buffer
  ihave HBS := (Entails.of_eq (bS_split c fullShare fBS)) $$ HBS
  icases HBS with ⟨HB0, HB1, HB2, HB3⟩
  iapply (wp_fill m c col0 (k0_pay2 (F := F)) pay2_eq fBS) $$ [Hy HB0]
  · isplitl [Hy] <;> iassumption
  iintro ⟨Hy, HB0⟩
  -- the barrier
  iapply (Rounds.wp_wait_rest_token 𝒱₀ ER (sched m) (c : Thread nD τ) none (κ := K (c, none))
      (wpE_semWait_eq 𝒱₀ (c : Thread nD τ) none Set.univ) (Set.mem_univ _) () (O := owedR c order) (W := W) (R := 0) (m := 0) (T := ∅)
      (by rw [expect_bar]; decide)) $$ [HcB HO HatB]
  · isplitr; · iapply (inv_at m K (c, none)); iexact HR
    isplitl [HcB]; · iexact HcB
    isplitl [HO]; · iexact HO
    isplitr; · iapply (mayWait_bar c order); iexact Hlev
    iexact HatB
  iintro ⟨HO, HatB, -, Hpay⟩
  ihave Hp := (Entails.of_eq (rest_bar m c)) $$ Hpay
  unfold barPay
  rw [if_neg Bool.false_ne_true, if_pos rfl]
  icases Hp with ⟨⟨⟨%fX, HX⟩, ⟨%fBX, HBX⟩⟩, ⟨%fY, HY⟩⟩
  ihave HBX := (Entails.of_eq (bO_split (xp c) fullShare fBX)) $$ HBX
  icases HBX with ⟨HX0, HX1, HX2, HX3⟩
  ihave HO := (show (owes (c : Thread nD τ) (owedR c order) _ : sProp 𝕄) ⊢ owesE c (owedR c order) from by unfold owesE; iintro H; iexists _; iexact H) $$ HO
  -- part 2
  simp only [k0_part2_eq_skeleton]; unfold k0_part2_skel
  simp only [Prog.lift, Prog.bind_op, Prog.bind_ret, Prog.pure_eq_ret]
  -- the rows of `A` sent along `x`, half a share of them lent
  ihave HAS := ((halve cc0_scratch0 c Finset.univ (xA m c)).mp) $$ HAS
  icases HAS with ⟨HASl, HASr⟩
  ihave HASr := ((aS_rows c c hr (xA m c)).mp) $$ HASr
  icases HASr with ⟨HASr, HASo⟩
  iapply (wp_ax m K c [2, 3, 4, 5, 1] _ (dev3_eq c) _ _ rfl rfl fX) $$ [HASr HX HO Hs0 Hr0]
  · isplitr; · iexact HR
    isplitl [HASr]; · iexact HASr
    isplitl [HX]; · iexact HX
    isplitl [HO]; · iexact HO
    isplitl [Hs0] <;> iassumption
  iintro ⟨Hd0, HO⟩
  -- column piece 0 of `B` sent, and piece 1 filled
  ihave HB0 := ((halve cc0_scratch1 c col0.set (xB m c)).mp) $$ HB0
  icases HB0 with ⟨HB0, HB0r⟩
  iapply (wp_bx m K c 2 [3, 4, 5, 1] _ (dev4_eq c) col0 (fun _ => rfl) _ _ rfl rfl credit_t0 rfl (recv_bx m c col0.set) fBX) $$ [HB0r HX0 HO Hs2 Hr2]
  · isplitr; · iexact HR
    isplitl [HB0r]; · iexact HB0r
    isplitl [HX0]; · iexact HX0
    isplitl [HO]; · iexact HO
    isplitl [Hs2] <;> iassumption
  iintro ⟨Hd2, HO⟩
  iapply (wp_fill m c col1 (k0_pay3 (F := F)) pay3_eq fBS) $$ [Hy HB1]
  · isplitl [Hy] <;> iassumption
  iintro ⟨Hy, HB1⟩
  -- part 3
  simp only [k0_part3_eq_skeleton]; unfold k0_part3_skel
  simp only [Prog.lift, Prog.bind_op, Prog.bind_ret, Prog.pure_eq_ret]
  ihave HB1 := ((halve cc0_scratch1 c col1.set (xB m c)).mp) $$ HB1
  icases HB1 with ⟨HB1, HB1r⟩
  iapply (wp_bx m K c 3 [4, 5, 1] _ (dev5_eq c) col1 (fun _ => rfl) _ _ rfl rfl credit_t1 rfl (recv_bx m c col1.set) fBX) $$ [HB1r HX1 HO Hs3 Hr3]
  · isplitr; · iexact HR
    isplitl [HB1r]; · iexact HB1r
    isplitl [HX1]; · iexact HX1
    isplitl [HO]; · iexact HO
    isplitl [Hs3] <;> iassumption
  iintro ⟨Hd3, HO⟩
  iapply (wp_fill m c col2 (k0_pay4 (F := F)) pay4_eq fBS) $$ [Hy HB2]
  · isplitl [Hy] <;> iassumption
  iintro ⟨Hy, HB2⟩
  ihave HB2 := ((halve cc0_scratch1 c col2.set (xB m c)).mp) $$ HB2
  icases HB2 with ⟨HB2, HB2r⟩
  iapply (wp_bx m K c 4 [5, 1] _ (dev6_eq c) col2 (fun _ => rfl) _ _ rfl rfl credit_t2 rfl (recv_bx m c col2.set) fBX) $$ [HB2r HX2 HO Hs4 Hr4]
  · isplitr; · iexact HR
    isplitl [HB2r]; · iexact HB2r
    isplitl [HX2]; · iexact HX2
    isplitl [HO]; · iexact HO
    isplitl [Hs4] <;> iassumption
  iintro ⟨Hd4, HO⟩
  iapply (wp_fill m c col3 (k0_pay5 (F := F)) pay5_eq fBS) $$ [Hy HB3]
  · isplitl [Hy] <;> iassumption
  iintro ⟨Hy, HB3⟩
  -- part 4
  simp only [k0_part4_eq_skeleton]; unfold k0_part4_skel
  simp only [Prog.lift, Prog.bind_op, Prog.bind_ret, Prog.pure_eq_ret]
  ihave HB3 := ((halve cc0_scratch1 c col3.set (xB m c)).mp) $$ HB3
  icases HB3 with ⟨HB3, HB3r⟩
  iapply (wp_bx m K c 5 [1] _ (dev7_eq c) col3 (fun _ => rfl) _ _ rfl rfl credit_t3 rfl (recv_bx m c col3.set) fBX) $$ [HB3r HX3 HO Hs5 Hr5]
  · isplitr; · iexact HR
    isplitl [HB3r]; · iexact HB3r
    isplitl [HX3]; · iexact HX3
    isplitl [HO]; · iexact HO
    isplitl [Hs5] <;> iassumption
  iintro ⟨Hd5, HO⟩
  -- the first product, from the shares not lent
  ihave HBS := (Entails.of_eq (bS_split c hl (xB m c)).symm) $$ [HB0 HB1 HB2 HB3]
  · isplitl [HB0]; · iexact HB0
    isplitl [HB1]; · iexact HB1
    isplitl [HB2] <;> iassumption
  iapply (wp_first m c hl fC) $$ [HASl HBS HC]
  · isplitl [HASl]; · iexact HASl
    isplitl [HBS] <;> iassumption
  iintro ⟨HASl, HBS, HC⟩
  -- the rows along `x` have landed, and go on along `y`
  iapply (wp_await m K c (true, 0) (owedR c [1]) (mayWait_r0 c) _ rfl (credit_a c)) $$ [Hc0 HO Hq0]
  · isplitr; · iexact HR
    isplitr; · iexact Hlev
    isplitl [Hc0]; · iexact Hc0
    isplitl [HO]; · iexact HO
    iexact Hq0
  iintro ⟨HO, Hq0, Hpay⟩
  ihave HA := (show endPay m (true, 0) c ⊢ pt cc0_scratch2 c (rowR c).set fullShare (xA m (xp c)) from Entails.refl _) $$ Hpay
  ihave HA := ((halve cc0_scratch2 c (rowR c).set (xA m (xp c))).mp) $$ HA
  icases HA with ⟨HA, HAr⟩
  iapply (wp_ay m K c [] _ (dev8_eq c) _ _ rfl rfl fY) $$ [HAr HY HO Hs1 Hr1]
  · isplitr; · iexact HR
    isplitl [HAr]; · iexact HAr
    isplitl [HY]; · iexact HY
    isplitl [HO]; · iexact HO
    isplitl [Hs1] <;> iassumption
  iintro ⟨Hd1, HO⟩
  -- part 5
  simp only [k0_part5_eq_skeleton]; unfold k0_part5_skel
  simp only [Prog.lift, Prog.bind_op, Prog.bind_ret, Prog.pure_eq_ret]
  iapply (wp_await m K c (true, 2) 0 (may_zero c _) _ rfl credit_t0) $$ [Hc2 HO Hq2]
  · isplitr; · iexact HR
    isplitr; · iexact Hlev
    isplitl [Hc2]; · iexact Hc2
    isplitl [HO]; · iexact HO
    iexact Hq2
  iintro ⟨HO, Hq2, Hpay⟩
  ihave HX0 := (show endPay m (true, 2) c ⊢ pt cc0_scratch3 c col0.set fullShare (xB m (xp c)) from Entails.refl _) $$ Hpay
  iapply (wp_piece c (rowX c) col0 (out1 c) k0_pay7 (rowR c).set (rowX_set c).le hl (xA m (xp c)) (xB m (xp c)) (accAt m c) _) $$ [HA HX0 HC Hout]
  · isplitl [HA]; · iexact HA
    isplitl [HX0]; · iexact HX0
    isplitl [HC] <;> iassumption
  iintro ⟨HA, HX0, HC, Hout⟩
  iapply (wp_await m K c (true, 3) 0 (may_zero c _) _ rfl credit_t1) $$ [Hc3 HO Hq3]
  · isplitr; · iexact HR
    isplitr; · iexact Hlev
    isplitl [Hc3]; · iexact Hc3
    isplitl [HO]; · iexact HO
    iexact Hq3
  iintro ⟨HO, Hq3, Hpay⟩
  ihave HX1 := (show endPay m (true, 3) c ⊢ pt cc0_scratch3 c col1.set fullShare (xB m (xp c)) from Entails.refl _) $$ Hpay
  iapply (wp_piece c (rowX c) col1 (out2 c) k0_pay8 (rowR c).set (rowX_set c).le hl (xA m (xp c)) (xB m (xp c)) (accAt m c) _) $$ [HA HX1 HC Hout]
  · isplitl [HA]; · iexact HA
    isplitl [HX1]; · iexact HX1
    isplitl [HC] <;> iassumption
  iintro ⟨HA, HX1, HC, Hout⟩
  -- parts 6 to 8
  simp only [k0_part6_eq_skeleton, k0_part7_eq_skeleton, k0_part8_eq_skeleton]; unfold k0_part6_skel k0_part7_skel k0_part8_skel
  simp only [Prog.lift, Prog.bind_op, Prog.bind_ret, Prog.pure_eq_ret]
  iapply (wp_await m K c (true, 4) 0 (may_zero c _) _ rfl credit_t2) $$ [Hc4 HO Hq4]
  · isplitr; · iexact HR
    isplitr; · iexact Hlev
    isplitl [Hc4]; · iexact Hc4
    isplitl [HO]; · iexact HO
    iexact Hq4
  iintro ⟨HO, Hq4, Hpay⟩
  ihave HX2 := (show endPay m (true, 4) c ⊢ pt cc0_scratch3 c col2.set fullShare (xB m (xp c)) from Entails.refl _) $$ Hpay
  iapply (wp_piece c (rowX c) col2 (out3 c) k0_pay9 (rowR c).set (rowX_set c).le hl (xA m (xp c)) (xB m (xp c)) (accAt m c) _) $$ [HA HX2 HC Hout]
  · isplitl [HA]; · iexact HA
    isplitl [HX2]; · iexact HX2
    isplitl [HC] <;> iassumption
  iintro ⟨HA, HX2, HC, Hout⟩
  iapply (wp_await m K c (true, 1) 0 (may_zero c _) _ rfl (credit_a c)) $$ [Hc1 HO Hq1]
  · isplitr; · iexact HR
    isplitr; · iexact Hlev
    isplitl [Hc1]; · iexact Hc1
    isplitl [HO]; · iexact HO
    iexact Hq1
  iintro ⟨HO, Hq1, Hpay⟩
  ihave HAy := (show endPay m (true, 1) c ⊢ pt cc0_scratch2 c (rowR (yp c)).set fullShare (xA m (xp (yp c))) from Entails.refl _) $$ Hpay
  iapply (wp_piece c (rowY c) col0 (out4 c) k0_pay10 (rowR (yp c)).set (rowY_set c).le fullShare (xA m (xp (yp c))) (xB m (xp c)) (accAt m c) _) $$ [HAy HX0 HC Hout]
  · isplitl [HAy]; · iexact HAy
    isplitl [HX0]; · iexact HX0
    isplitl [HC] <;> iassumption
  iintro ⟨HAy, HX0, HC, Hout⟩
  iapply (wp_piece c (rowY c) col1 (out5 c) k0_pay11 (rowR (yp c)).set (rowY_set c).le fullShare (xA m (xp (yp c))) (xB m (xp c)) (accAt m c) _) $$ [HAy HX1 HC Hout]
  · isplitl [HAy]; · iexact HAy
    isplitl [HX1]; · iexact HX1
    isplitl [HC] <;> iassumption
  iintro ⟨HAy, HX1, HC, Hout⟩
  iapply (wp_piece c (rowY c) col2 (out6 c) k0_pay12 (rowR (yp c)).set (rowY_set c).le fullShare (xA m (xp (yp c))) (xB m (xp c)) (accAt m c) _) $$ [HAy HX2 HC Hout]
  · isplitl [HAy]; · iexact HAy
    isplitl [HX2]; · iexact HX2
    isplitl [HC] <;> iassumption
  iintro ⟨HAy, HX2, HC, Hout⟩
  iapply (wp_await m K c (true, 5) 0 (may_zero c _) _ rfl credit_t3) $$ [Hc5 HO Hq5]
  · isplitr; · iexact HR
    isplitr; · iexact Hlev
    isplitl [Hc5]; · iexact Hc5
    isplitl [HO]; · iexact HO
    iexact Hq5
  iintro ⟨HO, Hq5, Hpay⟩
  ihave HX3 := (show endPay m (true, 5) c ⊢ pt cc0_scratch3 c col3.set fullShare (xB m (xp c)) from Entails.refl _) $$ Hpay
  iapply (wp_piece c (rowX c) col3 (out7 c) (fun a b => k0_pay14 (k0_pay13 a b)) (rowR c).set (rowX_set c).le hl (xA m (xp c)) (xB m (xp c)) (accAt m c) _) $$ [HA HX3 HC Hout]
  · isplitl [HA]; · iexact HA
    isplitl [HX3]; · iexact HX3
    isplitl [HC] <;> iassumption
  iintro ⟨HA, HX3, HC, Hout⟩
  iapply (wp_piece c (rowY c) col3 (out8 c) k0_pay15 (rowR (yp c)).set (rowY_set c).le fullShare (xA m (xp (yp c))) (xB m (xp c)) (accAt m c) _) $$ [HAy HX3 HC Hout]
  · isplitl [HAy]; · iexact HAy
    isplitl [HX3]; · iexact HX3
    isplitl [HC] <;> iassumption
  iintro ⟨HAy, HX3, HC, Hout⟩
  iapply (wp_await m K c (false, 0) 0 (may_zero c _) _ rfl (credit_s c)) $$ [Hd0 HO Hp0]
  · isplitr; · iexact HR
    isplitr; · iexact Hlev
    isplitl [Hd0]; · iexact Hd0
    isplitl [HO]; · iexact HO
    iexact Hp0
  iintro ⟨HO, Hp0, Hpay⟩
  ihave HASr := (show endPay m (false, 0) c ⊢ pt cc0_scratch0 c (rowR c).set hr (xA m c) from Entails.refl _) $$ Hpay
  iapply (wp_await m K c (false, 1) 0 (may_zero c _) _ rfl (credit_a c)) $$ [Hd1 HO Hp1]
  · isplitr; · iexact HR
    isplitr; · iexact Hlev
    isplitl [Hd1]; · iexact Hd1
    isplitl [HO]; · iexact HO
    iexact Hp1
  iintro ⟨HO, Hp1, Hpay⟩
  ihave HAr := (show endPay m (false, 1) c ⊢ pt cc0_scratch2 c (rowR c).set hr (xA m (xp c)) from Entails.refl _) $$ Hpay
  iapply (wp_await m K c (false, 2) 0 (may_zero c _) _ rfl credit_u0) $$ [Hd2 HO Hp2]
  · isplitr; · iexact HR
    isplitr; · iexact Hlev
    isplitl [Hd2]; · iexact Hd2
    isplitl [HO]; · iexact HO
    iexact Hp2
  iintro ⟨HO, Hp2, Hpay⟩
  ihave HB0 := (show endPay m (false, 2) c ⊢ pt cc0_scratch1 c col0.set hr (xB m c) from Entails.refl _) $$ Hpay
  iapply (wp_await m K c (false, 3) 0 (may_zero c _) _ rfl credit_u1) $$ [Hd3 HO Hp3]
  · isplitr; · iexact HR
    isplitr; · iexact Hlev
    isplitl [Hd3]; · iexact Hd3
    isplitl [HO]; · iexact HO
    iexact Hp3
  iintro ⟨HO, Hp3, Hpay⟩
  ihave HB1 := (show endPay m (false, 3) c ⊢ pt cc0_scratch1 c col1.set hr (xB m c) from Entails.refl _) $$ Hpay
  iapply (wp_await m K c (false, 4) 0 (may_zero c _) _ rfl credit_u2) $$ [Hd4 HO Hp4]
  · isplitr; · iexact HR
    isplitr; · iexact Hlev
    isplitl [Hd4]; · iexact Hd4
    isplitl [HO]; · iexact HO
    iexact Hp4
  iintro ⟨HO, Hp4, Hpay⟩
  ihave HB2 := (show endPay m (false, 4) c ⊢ pt cc0_scratch1 c col2.set hr (xB m c) from Entails.refl _) $$ Hpay
  iapply (wp_await m K c (false, 5) 0 (may_zero c _) _ rfl credit_u3) $$ [Hd5 HO Hp5]
  · isplitr; · iexact HR
    isplitr; · iexact Hlev
    isplitl [Hd5]; · iexact Hd5
    isplitl [HO]; · iexact HO
    iexact Hp5
  iintro ⟨HO, Hp5, Hpay⟩
  ihave HB3 := (show endPay m (false, 5) c ⊢ pt cc0_scratch1 c col3.set hr (xB m c) from Entails.refl _) $$ Hpay
  -- every buffer whole again
  ihave HASr := ((aS_rows c c hr (xA m c)).mpr) $$ [HASr HASo]
  · isplitl [HASr] <;> iassumption
  ihave HAS := ((halve cc0_scratch0 c Finset.univ (xA m c)).mpr) $$ [HASl HASr]
  · isplitl [HASl] <;> iassumption
  ihave HBSr := (Entails.of_eq (bS_split c hr (xB m c)).symm) $$ [HB0 HB1 HB2 HB3]
  · isplitl [HB0]; · iexact HB0
    isplitl [HB1]; · iexact HB1
    isplitl [HB2] <;> iassumption
  ihave HBS := ((halve cc0_scratch1 c Finset.univ (xB m c)).mpr) $$ [HBS HBSr]
  · isplitl [HBS] <;> iassumption
  ihave HA := ((halve cc0_scratch2 c (rowR c).set (xA m (xp c))).mpr) $$ [HA HAr]
  · isplitl [HA] <;> iassumption
  ihave HAO := (aO_join m c) $$ [HA HAy]
  · isplitl [HA] <;> iassumption
  ihave HBO := (Entails.of_eq (bO_split c fullShare (xB m (xp c))).symm) $$ [HX0 HX1 HX2 HX3]
  · isplitl [HX0]; · iexact HX0
    isplitl [HX1]; · iexact HX1
    isplitl [HX2] <;> iassumption
  -- every counter at zero
  ihave Hat := (positions c) $$ [HatB Hp0 Hp1 Hp2 Hp3 Hp4 Hp5 Hq0 Hq1 Hq2 Hq3 Hq4 Hq5]
  · isplitl [HatB]; · iexact HatB
    isplitl [Hp0 Hp1 Hp2 Hp3 Hp4 Hp5]
    · isplitl [Hp0]; · iexact Hp0
      isplitl [Hp1]; · iexact Hp1
      isplitl [Hp2]; · iexact Hp2
      isplitl [Hp3]; · iexact Hp3
      isplitl [Hp4] <;> iassumption
    · isplitl [Hq0]; · iexact Hq0
      isplitl [Hq1]; · iexact Hq1
      isplitl [Hq2]; · iexact Hq2
      isplitl [Hq3]; · iexact Hq3
      isplitl [Hq4] <;> iassumption
  imod (close_all m K c) $$ [Hat] with Hz
  · isplitr; · iexact HR
    iexact Hat
  rw [wp_ret]; imodintro
  iapply Hk
  unfold bodyPost Φ₁ owesE Dat.owesAt Pipeline.owesWithin
  rw [show (dats m 0 c).owed t0_0.succ = 0 from rfl]
  icases HO with ⟨%W', HO⟩
  isplitl [HAS HBS HAO HBO HC Hz]
  · isplitr [Hz]
    · iapply (Entails.of_eq (scopedRest0_eq c).symm)
      isplitl [HAS]; · iexists _; iexact HAS
      isplitl [HBS]; · iexists _; iexact HBS
      isplitl [HAO]; · iexact HAO
      isplitl [HBO]; · iexists _; iexact HBO
      iexists _; iexact HC
    · iexact Hz
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; swap; · iexact Hout
  ipureintro; exact outFrom_eq m c g2

/-- The run as the launch's proof takes it. -/
theorem body_obligation : BodyObligation (dats m 0 c) (defs₀ (F := F)) 𝒱₀ () Set.univ := fun t => by
  rw [fin_N0 t, bigSep_W0, bigSep_W0]
  simp only [owns_whole_eq]
  show iprop(Φ₀ m c ∗ (dats m 0 c).owesAt () t0_0.castSucc
      ∗ (∃ d, staged c cc0_stg0_0 ((dats m 0 c).before (0 : Fin 3) t0_0 d))
      ∗ (∃ d, staged c cc0_stg1_0 ((dats m 0 c).before (1 : Fin 3) t0_0 d))
      ∗ (∃ d, staged c cc0_stg2_0 ((dats m 0 c).before (2 : Fin 3) t0_0 d)))
    ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _)
            cc0_scratch5 cc0_scratch6 cc0_scratch7 cc0_scratch8 cc0_scratch9 cc0_scratch10) (fun _ => bodyPost m c)
  unfold Φ₀ start
  iintro ⟨⟨⟨⟨%K, Hg⟩, Hcr, Hlev⟩, Hrest⟩, Hio⟩
  ihave Hrest := (Entails.of_eq (scopedRest0_eq c)) $$ Hrest
  iapply (sound_body m K c fun _ => bodyPost m c)
  unfold bodyPre
  isplitl
  · isplitl [Hg Hcr Hlev Hrest]
    · isplitl [Hg]; · iexact Hg
      isplitl [Hcr]; · iexact Hcr
      isplitl [Hlev] <;> iassumption
    iexact Hio
  · iintro H; iexact H

end Cert.Exchange

end
-- ==== Proof.Launch.lean ====
/-
# The launch

The four devices' runs put together: the exchange's cells and tokens are made, the cells' invariants allocated under common
names, each duty's token dealt to the device that pays it, and each device launched owing what it is to signal and send.
-/
module

public import proofs.«01_k».proof.Proof.Sound
public import Idealize.ShloMosaic.Lib.Pipeline.CollectiveSegs
public import Idealize.ShloMosaic.Lib.Pipeline.Value

@[expose] public section

set_option maxRecDepth 16384

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells' launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

theorem tokOf_injective : Function.Injective tokOf := by
  rintro ⟨c, t⟩ ⟨c', t'⟩ h
  have h1 : c = c' := by
    have := congrArg (fun x : GSem nD τ sig × ℕ × Bool => x.1.1.1) h
    rcases t with b | x <;> rcases t' with b' | x' <;> exact this
  subst h1
  have hs := congrArg (fun x : GSem nD τ sig × ℕ × Bool => x.1.2) h
  rcases t with b | x <;> rcases t' with b' | x'
  · have : b = b' := congrArg (fun x : GSem nD τ sig × ℕ × Bool => x.2.2) h
    rw [this]
  · exact absurd hs.symm (osem_ne_bar x')
  · exact absurd hs (osem_ne_bar x)
  · rw [osem_injective hs]

/-- All the devices' cells, -/
def cells : Finset (GSem nD τ sig) := Finset.univ.map ⟨kcell, kcell_injective⟩
/-- and all their duties' tokens. -/
def tokens : Finset (GSem nD τ sig × ℕ × Bool) := Finset.univ.map ⟨tokOf, tokOf_injective⟩

/-- The launch element: the staging pipeline's and the exchange's. -/
def u₀ : UU :=
  (initOf (Pipeline.cells cfgs cellOf_inj) (Pipeline.launchToks cfgs cellOf_inj), initOf cells tokens)

/-- The tokens of the duties of device `c`'s own cells. -/
def ownToks (c : Dev nD) : sProp 𝕄 := bigSep Finset.univ fun t : Duty => dutyTok ER (tokOf (c, t)).1 (tokOf (c, t)).2.1 (tokOf (c, t)).2.2

/-- What the launch element deals device `c`: its cells at round 0, and its own duties' tokens. -/
def dealt (c : Dev nD) : sProp 𝕄 :=
  iprop((bigSep Finset.univ fun k : KIx => roundState ER (sched m) (kcell (c, k)) 0)
    ∗ ((bigSep Finset.univ fun k : KIx => atPos ER (kcell (c, k)) 0 ∅ 0) ∗ bigSep Finset.univ fun k : KIx => reached ER (kcell (c, k)) 0) ∗ ownToks c)

/-- What each device has of the exchange once the invariants are allocated. -/
def shared (c : Dev nD) : sProp 𝕄 := iprop(∃ K, ghost m K c)

omit [FloatOps F] in
theorem fund : BI.own (ER (initOf cells tokens)) ⊢ (|==> bigSep Finset.univ (dealt m) : sProp 𝕄) := by
  have hX (Φ : GSem nD τ sig → sProp 𝕄) : bigSep cells Φ = bigSep Finset.univ fun c : Dev nD => bigSep Finset.univ fun k : KIx => Φ (kcell (c, k)) := by
    unfold cells; rw [bigSep_map, bigSep_univ_prod]; rfl
  have hT : bigSep tokens (fun x => (dutyTok ER x.1 x.2.1 x.2.2 : sProp 𝕄)) = bigSep Finset.univ fun c : Dev nD => ownToks c := by
    unfold tokens ownToks; rw [bigSep_map, bigSep_univ_prod]; rfl
  have hf := Rounds.fund ER (sched (F := F) m) cells tokens
  rw [hX, hX, hX, hT] at hf
  unfold dealt
  rw [bigSep_sep', bigSep_sep', bigSep_sep']
  iintro HX
  imod hf $$ HX with ⟨Hst, Hr, Hat, Htok⟩
  imodintro
  isplitl [Hst]; · iexact Hst
  isplitl [Hat Hr]
  · isplitl [Hat] <;> iassumption
  iexact Htok

/-! ## The invariants -/

omit [FloatOps F] in
/-- The barrier's semaphore is the launch's only unscoped one. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The counters of a device's cells are the barrier's and those of the kernel's own semaphores. -/
theorem counters_eq (c : Dev nD) :
    (bigSep Finset.univ fun k : KIx => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_cells, unscopedSems0_eq]; rfl

omit [FloatOps F] in
/-- A device's counters at zero and its cells at round 0 make its cells' invariants. -/
theorem alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : KIx => iprop(∃ κ : ℕ, cellInv ER (sched m) κ (kcell (c, k))))
          ∗ ((bigSep Finset.univ fun k : KIx => atPos ER (kcell (c, k)) 0 ∅ 0) ∗ bigSep Finset.univ fun k : KIx => reached ER (kcell (c, k)) 0) ∗ ownToks c) := by
  have hI : iprop((bigSep Finset.univ fun k : KIx => semVal (kcell (c, k)) 0) ∗ bigSep Finset.univ fun k : KIx => roundState ER (sched m) (kcell (c, k)) 0)
      ⊢ (|={Set.univ}=> bigSep Finset.univ fun k : KIx => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  rw [counters_eq] at hI
  unfold dealt
  iintro ⟨Hos, Hus, Hst, Hrest⟩
  imod hI $$ [Hos Hus Hst] with Hinv
  · isplitr [Hst]
    · isplitl [Hus] <;> iassumption
    iexact Hst
  imodintro
  isplitl [Hinv] <;> iassumption

/-- Who pays a duty, as a permutation: the neighbours being mutual, it is its own inverse. -/
def payer : (Dev nD × Duty) ≃ (Dev nD × Duty) where
  toFun ct := (dst ct.2 ct.1, ct.2)
  invFun ct := (dst ct.2 ct.1, ct.2)
  left_inv ct := Prod.ext (dst_dst ct.2 ct.1) rfl
  right_inv ct := Prod.ext (dst_dst ct.2 ct.1) rfl
theorem payer_apply (c : Dev nD) (t : Duty) : payer (c, t) = (dst t c, t) := rfl

omit [FloatOps F] in
/-- The tokens dealt to the devices that pay with them. -/
theorem deal : (bigSep Finset.univ fun c : Dev nD => (ownToks c : sProp 𝕄)) = bigSep Finset.univ fun c : Dev nD => payToks c := by
  unfold ownToks payToks
  rw [← bigSep_univ_prod (fun ct : Dev nD × Duty => (dutyTok ER (tokOf ct).1 (tokOf ct).2.1 (tokOf ct).2.2 : sProp 𝕄)), bigSep_univ_equiv payer, bigSep_univ_prod]
  exact bigSep_congr fun c _ => bigSep_congr fun t _ => by rw [payer_apply]

omit [FloatOps F] in
/-- All the devices' invariants under common names, with each device's positions and the tokens it pays with. -/
theorem regroup :
    (bigSep Finset.univ fun c : Dev nD => iprop((bigSep Finset.univ fun k : KIx => iprop(∃ κ : ℕ, cellInv ER (sched m) κ (kcell (c, k))))
          ∗ ((bigSep Finset.univ fun k : KIx => atPos ER (kcell (c, k)) 0 ∅ 0) ∗ bigSep Finset.univ fun k : KIx => reached ER (kcell (c, k)) 0) ∗ ownToks c) : sProp 𝕄)
      ⊢ bigSep Finset.univ (shared m) := by
  have hg (K : Dev nD × KIx → ℕ) (c : Dev nD) : iprop(records m K ∗ (bigSep Finset.univ fun k : KIx => atPos ER (kcell (c, k)) 0 ∅ 0) ∗ payToks c) ⊢ (shared m c : sProp 𝕄) := by
    unfold shared ghost; iintro H; iexists K; iexact H
  have hall (K : Dev nD × KIx → ℕ) : iprop(records m K ∗ bigSep Finset.univ fun c : Dev nD => iprop((bigSep Finset.univ fun k : KIx => atPos ER (kcell (c, k)) 0 ∅ 0) ∗ payToks c))
      ⊢ (bigSep Finset.univ (shared m) : sProp 𝕄) := by
    refine (sep_mono_left (BI.bigSep_of_persistent (Finset.univ : Finset (Dev nD)) (records m K))).trans ?_
    rw [← bigSep_sep']
    exact bigSep_mono fun c _ => hg K c
  rw [bigSep_sep', bigSep_sep', bigSep_sep', deal, ← bigSep_univ_prod (fun ck : Dev nD × KIx => iprop(∃ κ : ℕ, cellInv ER (sched m) κ (kcell ck))),
    ← bigSep_univ_prod (fun ck : Dev nD × KIx => (reached ER (kcell ck) 0 : sProp 𝕄))]
  iintro ⟨HI, ⟨Hat, HR⟩, Htok⟩
  ihave HK := (BI.bigSep_exists_pi Finset.univ (fun (ck : Dev nD × KIx) (κ : ℕ) => (cellInv ER (sched m) κ (kcell ck) : sProp 𝕄))) $$ HI
  icases HK with ⟨%K, HI⟩
  iapply (hall K)
  isplitl [HI HR]
  · unfold records; isplitl [HI] <;> iassumption
  · rw [bigSep_sep']
    isplitl [Hat] <;> iassumption

omit [FloatOps F] in
/-- The step every device takes together, before any runs. -/
theorem together : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (shared m) :=
  ((bigSep_mono fun c _ => alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem rCell_eq_iff {a b : Dev nD} {i j : Fin 6} : Iff (rCell i a = rCell j b) (i = j ∧ a = b) :=
  ⟨fun h => ⟨congrArg Prod.snd (osem_injective (a₁ := (true, i)) (a₂ := (true, j)) (congrArg Prod.snd h)), congrArg (fun g : GSem nD τ sig => g.1.1) h⟩, fun h => by rw [h.1, h.2]⟩
theorem rCell_ne_bar (j : Fin 6) (a b : Dev nD) : rCell j a ≠ barCell b := fun h => osem_ne_bar (true, j) (congrArg Prod.snd h)

/-- A device's transfers owe the barrier's cells nothing, -/
theorem owedR_bar (d c : Dev nD) (l : List (Fin 6)) : owedR d l (barCell c) () = 0 := by
  by_contra h
  obtain ⟨j, -, e⟩ := owedR_pos (Nat.pos_of_ne_zero h)
  exact rCell_ne_bar _ _ _ e.symm
/-- and a landing's cell its units, if one of them lands there. -/
theorem owedR_at (d c : Dev nD) (j : Fin 6) : ∀ l : List (Fin 6), l.Nodup → owedR d l (rCell j c) () = if j ∈ l ∧ d = pr j c then amt j else 0
  | [], _ => (if_neg fun h => List.not_mem_nil h.1).symm
  | i :: l, hl => by
    have hi := (List.nodup_cons.mp hl).1
    unfold owedR
    rw [Pi.add_apply, Finsupp.add_apply, owedR_at d c j l (List.nodup_cons.mp hl).2, tallyAt_apply]
    by_cases hij : j = i
    · subst hij
      rw [if_neg fun h => hi h.1, Nat.zero_add]
      by_cases hd : d = pr j c
      · subst hd; rw [pr_pr, if_pos ⟨rfl, rfl⟩, if_pos ⟨List.mem_cons_self, rfl⟩]
      · rw [if_neg fun h => hd (by rw [(rCell_eq_iff.mp h.1).2, pr_pr]), if_neg fun h => hd h.2]
    · rw [if_neg (c := rCell j c = rCell i (pr i d) ∧ () = ()) fun h => hij (rCell_eq_iff.mp h.1).1, Nat.add_zero]
      simp only [List.mem_cons, hij, false_or]

theorem owed_bar (d c : Dev nD) : O₀ d (barCell c) () = (if d = yp c then 1 else 0) + (if d = xp c then 1 else 0) := by
  unfold O₀ O₁
  rw [Pi.add_apply, Finsupp.add_apply, Pi.add_apply, Finsupp.add_apply, owedR_bar, Nat.zero_add, tallyAt_apply, tallyAt_apply]
  have hy : Iff (barCell c = barCell (yp d) ∧ () = ()) (d = yp c) :=
    ⟨fun h => by rw [bar_eq_iff.mp h.1, yp_yp], fun h => ⟨by rw [h, yp_yp], rfl⟩⟩
  have hx : Iff (barCell c = barCell (xp d) ∧ () = ()) (d = xp c) :=
    ⟨fun h => by rw [bar_eq_iff.mp h.1, xp_xp], fun h => ⟨by rw [h, xp_xp], rfl⟩⟩
  rw [if_congr hy rfl rfl, if_congr hx rfl rfl]
theorem mem_order : ∀ j, j ∈ order := by decide
theorem owed_r (d c : Dev nD) (j : Fin 6) : O₀ d (rCell j c) () = if d = pr j c then amt j else 0 := by
  unfold O₀ O₁
  rw [Pi.add_apply, Finsupp.add_apply, Pi.add_apply, Finsupp.add_apply, owedR_at d c j order (by decide), tallyAt_apply, tallyAt_apply,
    if_neg (c := rCell j c = barCell (yp d) ∧ () = ()) (fun h => rCell_ne_bar _ _ _ h.1),
    if_neg (c := rCell j c = barCell (xp d) ∧ () = ()) (fun h => rCell_ne_bar _ _ _ h.1), Nat.add_zero]
  exact if_congr ⟨fun h => h.2, fun h => ⟨mem_order j, h⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_)
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]
theorem launch_r (c : Dev nD) (j : Fin 6) :
    tallyOn (rCell j c) (launchCredit (Pipeline.owing O₀) 0 (rCell j c)) = (tallyAt (rCell j c) () (amt j) : CellTallies nD τ sig Unit) := by
  unfold tallyAt; refine congrArg _ (Finsupp.ext fun u => ?_)
  rw [Pipeline.launchCredit_owing, Finsupp.single_eq_same, Finset.sum_congr rfl fun d _ => owed_r d c j, Finset.sum_ite_eq' Finset.univ (pr j c) fun _ => amt j,
    if_pos (Finset.mem_univ _)]

omit [FloatOps F] in
theorem credits (c : Dev nD) : (Pipeline.launchCred O₀ c : sProp 𝕄) ⊢ credit c := by
  unfold Pipeline.launchCred credit
  rw [bigSep_univ_at _ (SemLoc.reg barS), launch_bar]
  refine sep_mono_right ?_
  have hj : Function.Injective fun j : Fin 6 => osem (true, j) := fun i j h => congrArg Prod.snd (osem_injective h)
  refine (bigSep_subset (t := Finset.univ.map ⟨fun j : Fin 6 => osem (true, j), hj⟩) fun sm h => ?_).trans ?_
  · obtain ⟨j, -, rfl⟩ := Finset.mem_map.mp h
    exact Finset.mem_erase.mpr ⟨osem_ne_bar (true, j), Finset.mem_univ _⟩
  · rw [bigSep_map]
    exact bigSep_mono fun j _ => Entails.of_eq (congrArg cred (launch_r c j))

/-! ## The launch's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ shared m c)
      ⊢ |={Set.univ}=> iprop(start m c ∗ emp) := by
  iintro ⟨-, Hlev, Hcr, -, HG⟩
  ihave Hc := (credits (F := F) c) $$ Hcr
  imodintro
  unfold start shared
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  show Φ₁ c ⊢ _
  unfold Φ₁
  rw [counters_eq]
  iintro ⟨Hr, Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run of the whole program -/

/-- The state a run starts from: memory `m`, every counter at zero. -/
abbrev s₀ : MemSt nD τ sig (Elt F) := ⟨m, fun _ => 0, ρ⟩

/-- The array of window `w` on device `c` once the run is over. -/
def finalA (c : Dev nD) (w : Fin cfg0.W) : Buf (Elt F) ((cfg0.win w).arr.view.loc (c : Thread nD τ)) := (dats m 0 c).arrAt w cfg0.N

set_option maxRecDepth 16384 in
/-- From any memory with every counter at zero, for any float values, the program on the four devices terminates without a
    fault; every device's arrays then hold `finalA`, and every semaphore's counter is at zero. -/
theorem run_main : θ_run defs (onTc (τ := τ) (main (F := F))) (s₀ m ρ)
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := shared m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := together m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they began: `A`, -/
theorem finalA_0 (c : Dev nD) : finalA m c (0 : Fin 3) = m ((c : Thread nD τ).loc main_arg0) := (dats (F := F) m 0 c).arrAt_in (0 : Fin 3) rfl _
/-- and `B`. -/
theorem finalA_1 (c : Dev nD) : finalA m c (1 : Fin 3) = m ((c : Thread nD τ).loc main_arg1) := (dats (F := F) m 0 c).arrAt_in (1 : Fin 3) rfl _

/-- From any memory with the counters zero, every weakly fair run of the program ends, without a fault, with the result array
    at the pipeline's contents of it, the two arguments as they began, and every semaphore's counter zero. -/
theorem run_result : θ_run defs (onTc (τ := τ) (main (F := F))) ⟨m, fun _ => 0, ρ⟩
    (fun r => (∀ c : Dev nD, r.2.mem ((c.tc : Thread nD τ).loc main_v1) = finalA m c (2 : Fin 3)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono
    (fun _ h => ⟨fun c => ⟨h.1 c (2 : Fin 3), (h.1 c (0 : Fin 3)).trans (finalA_0 m c), (h.1 c (1 : Fin 3)).trans (finalA_1 m c)⟩, h.2⟩)
    (run_main m ρ)

/-- The same run with the result's contents left out. -/
theorem run_args : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_result m ρ)

end Cert.Exchange

end
-- ==== Proof.Value.lean ====
/-
# What the kernel computes

Over the extended reals the eight pieces of a device's result are one formula: the product of the device's own blocks plus
the product of its neighbour's along `x` (`outAt_apply`). As the two neighbours hold the two halves of the inner axis, the
sum is the device's block of the whole product (`outAt_eq`).
-/
module

public import proofs.«01_k».proof.Proof.Launch
public import proofs.«01_k».proof.Proof.Gen.ReferenceIdeal.Run
public import Idealize.ShloMosaic.Lib.MatmulPlain
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx
open Idealize.ShloMosaic.Pipeline (Dat)
open scoped BigOperators

/-! ## One piece -/

/-- The sum of the products of row `r` of a 768x384 block and column `j` of a 384x768 block. -/
def dot (fA : S768x384.Idx → EReal) (fB : S384x768.Idx → EReal) (r j : Fin 768) : EReal := ∑ k : Fin 384, fA (ix2 r k) * fB (ix2 k j)

/-- A piece whose upper left corner is `(ro, co)`: the accumulated block there, plus the product of the rows and the columns
    that the piece spans. -/
theorem piece_apply {N : ℕ} {offA : Fin 2 → ℕ} {offB : Fin 2 → ℕ} {offO : Fin 2 → ℕ} (inbA inbB inbO) (ro co : ℕ)
    (hA : offA = ![ro, 0]) (hB : offB = ![0, co]) (hO : offO = ![ro, co])
    (fA : S768x384.Idx → EReal) (fB : S384x768.Idx → EReal) (fC : S768x768.Idx → EReal) (j : (⟨2, ![384, N]⟩ : Shape).Idx) :
    truncf (F := Ideal) .bf16 (addf (φ := .f32) (fun x => fC ((Rect.unit (s := S768x768) offO ![384, N] inbO).emb x))
      (matmul (φ₁ := .bf16) (φ₂ := .bf16) (DotDims.plain 384 384 N) none (fun x => fA ((Rect.unit (s := S768x384) offA ![384, 384] inbA).emb x))
        (fun x => fB ((Rect.unit (s := S384x768) offB ![384, N] inbB).emb x)) (constant ⟨2, ![384, N]⟩ .f32 0x00000000#32))) bitsLt_bf16_f32 j
      = fC ((Rect.unit (s := S768x768) offO ![384, N] inbO).emb j)
        + dot fA fB ((Rect.unit (s := S768x768) offO ![384, N] inbO).emb j 0) ((Rect.unit (s := S768x768) offO ![384, N] inbO).emb j 1) := by
  subst hA hB hO
  refine congrArg (fC _ + ·) ?_
  rw [eq_ix2 j]
  refine (Ideal.matmul_plain_apply _ _ _ _ _ _).trans ?_
  show Ideal.ofBits .f32 0x00000000#32 + _ = _
  rw [Ideal.ofBits_zero_f32, zero_add]
  refine Finset.sum_congr rfl fun k _ => ?_
  congr 1
  · refine congrArg fA (funext fun a => Fin.ext ?_)
    rw [Rect.emb_apply]
    match a with
    | ⟨0, _⟩ => rfl
    | ⟨1, _⟩ => show 0 + 1 * (k : ℕ) = k; omega
  · refine congrArg fB (funext fun a => Fin.ext ?_)
    rw [Rect.emb_apply]
    match a with
    | ⟨0, _⟩ => show 0 + 1 * (k : ℕ) = k; omega
    | ⟨1, _⟩ => rfl

/-! ## One device's result -/

variable (m : (ℓ : Loc nD τ sig) → Buf (Elt Ideal) ℓ)

/-- The first product, element by element. -/
theorem accAt_apply (c : Dev nD) (i : S768x768.Idx) : accAt m c i = dot (xA m c) (xB m c) (i 0) (i 1) := by
  have e : accAt m c = matmul (φ₁ := .bf16) (φ₂ := .bf16) dot_S768x384_S384x768_S768x768_1_0_0_1_n_n none (xA m c) (xB m c) (constant S768x768 .f32 0x00000000#32) := by
    unfold accAt k0_pay6; exact shapeCast_self _ _
  rw [e, eq_ix2 i]
  refine (Ideal.matmul_plain_apply (M := 768) (K := 384) (N := 768) none (xA m c) (xB m c) _ _ _).trans ?_
  show Ideal.ofBits .f32 0x00000000#32 + _ = _
  rw [Ideal.ofBits_zero_f32, zero_add]
  rfl

/-- The sum of the two products that device `c` forms. -/
def total (c : Dev nD) : (cc0_stg2_0 : Ref sig .tc).ty.Contents (Elt Ideal) :=
  fun i => dot (xA m c) (xB m c) (i 0) (i 1) + dot (xA m (xp c)) (xB m (xp c)) (i 0) (i 1)

/-- If devices along `y` hold the same block of `A`, the result is that sum: every piece is. -/
theorem outAt_apply (hA : ∀ c, xA m (yp c) = xA m c) (c : Dev nD) : outAt m c = total m c := by
  have hY : xA m (xp (yp c)) = xA m (xp c) := by
    rw [show xp (yp c) = yp (xp c) by revert c; decide]; exact hA _
  have acc (i : S768x768.Idx) {b : EReal} (h : b = dot (xA m (xp c)) (xB m (xp c)) (i 0) (i 1)) : HAdd.hAdd (α := EReal) (accAt m c i) b = total m c i := by
    rw [h, accAt_apply]; rfl
  have hX {N : ℕ} {offO : Fin 2 → ℕ} {co : ℕ} (inbB inbO) (hO : offO = ![384 * (c.val % 2), co]) (j) :=
    (piece_apply (N := N) (k0_off2_inb c) inbB inbO (384 * (c.val % 2)) co (k0_off2_eq c) rfl hO (xA m (xp c)) (xB m (xp c)) (accAt m c) j).trans (acc _ rfl)
  have hZ {N : ℕ} {offO : Fin 2 → ℕ} {co : ℕ} (inbB inbO) (hO : offO = ![384 - 384 * (c.val % 2), co]) (j) :=
    (piece_apply (N := N) (k0_off6_inb c) inbB inbO (384 - 384 * (c.val % 2)) co (k0_off6_eq c) rfl hO (xA m (xp (yp c))) (xB m (xp c)) (accAt m c) j).trans
      (acc _ (by rw [hY]))
  exact outAt_spec m c (total m c)
    (hX (co := 0) inb_S384x768_S384x256_0_0 (k0_off3_inb c) (k0_off3_eq c)) (hX (co := 256) inb_S384x768_S384x256_0_256 (k0_off4_inb c) (k0_off4_eq c))
    (hX (co := 512) inb_S384x768_S384x128_0_512 (k0_off5_inb c) (k0_off5_eq c)) (hZ (co := 0) inb_S384x768_S384x256_0_0 (k0_off7_inb c) (k0_off7_eq c))
    (hZ (co := 256) inb_S384x768_S384x256_0_256 (k0_off8_inb c) (k0_off8_eq c)) (hZ (co := 512) inb_S384x768_S384x128_0_512 (k0_off9_inb c) (k0_off9_eq c))
    (hX (co := 640) inb_S384x768_S384x128_0_640 (k0_off10_inb c) (k0_off10_eq c)) (hZ (co := 640) inb_S384x768_S384x128_0_640 (k0_off11_inb c) (k0_off11_eq c))

/-! ## The arrays behind the windows -/

/-- Each window's one block is its whole array. -/
theorem xA_eq (c : Dev nD) : xA m c = m ((c : Thread nD τ).loc main_arg0) :=
  funext fun i => congrArg (m ((c : Thread nD τ).loc main_arg0)) (funext fun a => Fin.ext (win0_0.rect_emb_val_of_index_zero (0 : Fin 1) a rfl i))
theorem xB_eq (c : Dev nD) : xB m c = m ((c : Thread nD τ).loc main_arg1) :=
  funext fun i => congrArg (m ((c : Thread nD τ).loc main_arg1)) (funext fun a => Fin.ext (win0_1.rect_emb_val_of_index_zero (0 : Fin 1) a rfl i))

theorem emb2 (i : S768x768.Idx) : (win0_2.blk (0 : Fin 1)).view.emb i = i :=
  funext fun a => Fin.ext (win0_2.rect_emb_val_of_index_zero (0 : Fin 1) a rfl i)

theorem mem2 (i : S768x768.Idx) : i ∈ (win0_2.blk (0 : Fin 1)).view.set := by
  have h := (win0_2.blk (0 : Fin 1)).view.emb_mem_set i
  rwa [emb2 i] at h

/-- So the result array ends at what the kernel leaves in its buffer. -/
theorem finalA_2 (c : Dev nD) : finalA m c (2 : Fin 3) = outAt m c := by
  refine (dats m 0 c).arrAt_eq_of_cover (2 : Fin 3) (outAt m c) (fun t _ => ?_) fun i => ⟨(0 : Fin 1), flush0_2 _, mem2 i⟩
  obtain rfl : t = (0 : Fin 1) := Fin.ext (Nat.lt_one_iff.mp t.isLt)
  have e : (dats m 0 c).flushed (2 : Fin 3) (0 : Fin 1) = win0_2.cut (grid0.coords (0 : Fin 1)) (outAt m c) := rfl
  rw [e]
  generalize outAt m c = G
  exact funext fun i => congrArg G (emb2 i).symm

/-! ## The whole product -/

variable (A : Cert.ReferenceIdeal.S768x768.Idx → EReal) (B : Cert.ReferenceIdeal.S768x1536.Idx → EReal)

/-- The reference's result, from the whole arrays. -/
def whole : Cert.ReferenceIdeal.S768x1536.Idx → EReal :=
  truncf (F := Ideal) .bf16 (Host.dotGeneral (φ₁ := .bf16) (φ₂ := .bf16) Cert.ReferenceIdeal.dot_S768x768_S768x1536_S768x1536_1_0_0_1_n_n none A B)
    Cert.ReferenceIdeal.Gen.bitsLt_bf16_f32

/-- Its element in row `r` and column `j`: a sum over the whole inner axis, -/
theorem whole_apply (r : Fin 768) (j : Fin 1536) : whole A B (ix2 r j) = ∑ k : Fin 768, A (ix2 r k) * B (ix2 k j) := by
  have h := Ideal.matmul_plain_apply (M := 768) (K := 768) (N := 1536) (φ₁ := .bf16) (φ₂ := .bf16) none A B (fun _ => (0 : EReal)) r j
  rw [zero_add] at h
  exact h

/-- Column `j` of the first (`h = 0`) or second (`h = 1`) half of an axis twice as long. -/
def at2 (n : ℕ) (h : ℕ) (hh : h < 2) (k : Fin n) : Fin (2 * n) := ⟨h * n + k, by
  have := k.isLt
  obtain rfl | rfl : h = 0 ∨ h = 1 := by omega
  all_goals omega⟩

/-- which is the sum over the half `h` of the axis and the sum over the other, whichever half is `h`. -/
theorem sum_halves (n : ℕ) (f : Fin (2 * n) → EReal) (h h' : ℕ) (hh : h < 2) (hh' : h' < 2) (e : h + h' = 1) :
    ∑ k, f k = (∑ k, f (at2 n h hh k)) + ∑ k, f (at2 n h' hh' k) := by
  have e0 : ∑ k, f k = (∑ k, f (at2 n 0 (by decide) k)) + ∑ k, f (at2 n 1 (by decide) k) := by
    rw [← Equiv.sum_comp (finCongr (two_mul n).symm), Fin.sum_univ_add]
    congr 1
    all_goals exact Finset.sum_congr rfl fun k _ => congrArg f (Fin.ext (by simp [at2, Nat.add_comm]))
  obtain ⟨rfl, rfl⟩ | ⟨rfl, rfl⟩ : (h = 0 ∧ h' = 1) ∨ (h = 1 ∧ h' = 0) := by omega
  · exact e0
  · exact e0.trans (add_comm _ _)

theorem xlt (c : Dev nD) : c.val / 2 < 2 := by have := dev_lt c; omega
theorem ylt (c : Dev nD) : c.val % 2 < 2 := Nat.mod_lt _ (by decide)

/-- Contents of two axes that agree at every row and column are equal. -/
theorem ext2 {n0 n1 : ℕ} {α : Type} {f g : (⟨2, ![n0, n1]⟩ : Shape).Idx → α} (h : ∀ a b, f (ix2 a b) = g (ix2 a b)) : f = g :=
  funext fun i => by rw [eq_ix2 i]; exact h _ _

/-- What the arrays' layout gives each device: its block of `A`, by its place along `x`, -/
def HoldsA : Prop := ∀ c : Dev nD, xA m c = Layout.blockN ⟨2, ![768, 384]⟩ ⟨2, ![768, 768]⟩ (Layout.meshBlock [2, 2] ![[], [0]] c) A
/-- and its block of `B`, by both. -/
def HoldsB : Prop := ∀ c : Dev nD, xB m c = Layout.blockN ⟨2, ![384, 768]⟩ ⟨2, ![768, 1536]⟩ (Layout.meshBlock [2, 2] ![[0], [1]] c) B

variable {m A B}

theorem xA_apply (h : HoldsA m A) (c : Dev nD) (r : Fin 768) (k : Fin 384) : xA m c (ix2 r k) = A (ix2 r (at2 384 (c.val / 2) (xlt c) k)) := by
  rw [h c]
  have hc := xlt c
  refine congrArg A (funext fun a => Fin.ext ?_)
  match a with
  | ⟨0, _⟩ => show 0 * 768 + (r : ℕ) = r; omega
  | ⟨1, _⟩ => show ((c.val / 2) % 2 * 1 + 0) * 384 + (k : ℕ) = c.val / 2 * 384 + k; omega

theorem xB_apply (h : HoldsB m B) (c : Dev nD) (k : Fin 384) (j : Fin 768) :
    xB m c (ix2 k j) = B (ix2 (at2 384 (c.val / 2) (xlt c) k) (at2 768 (c.val % 2) (ylt c) j)) := by
  rw [h c]
  have hc := xlt c
  refine congrArg B (funext fun a => Fin.ext ?_)
  match a with
  | ⟨0, _⟩ => show ((c.val / 2) % 2 * 1 + 0) * 384 + (k : ℕ) = c.val / 2 * 384 + k; omega
  | ⟨1, _⟩ => show ((c.val / 1) % 2 * 1 + 0) * 768 + (j : ℕ) = c.val % 2 * 768 + j; omega

/-- A device's own product is the sum over its half of the inner axis. -/
theorem dot_apply (hA : HoldsA m A) (hB : HoldsB m B) (c : Dev nD) (r j : Fin 768) :
    dot (xA m c) (xB m c) r j
      = ∑ k : Fin 384, (fun q : Fin 768 => A (ix2 r q) * B (ix2 q (at2 768 (c.val % 2) (ylt c) j))) (at2 384 (c.val / 2) (xlt c) k) :=
  Finset.sum_congr rfl fun k _ => by rw [xA_apply hA, xB_apply hB]

/-- So every device ends with its block, by its place along `y`, of the whole product. -/
theorem outAt_eq (hA : HoldsA m A) (hB : HoldsB m B) (c : Dev nD) :
    outAt m c = Layout.blockN ⟨2, ![768, 768]⟩ ⟨2, ![768, 1536]⟩ (Layout.meshBlock [2, 2] ![[], [1]] c) (whole A B) := by
  have hy : ∀ c, xA m (yp c) = xA m c := fun c => ext2 (n0 := 768) (n1 := 384) fun r k => by
    rw [xA_apply hA, xA_apply hA]
    have e : (yp c).val / 2 = c.val / 2 := by have := dev_lt c; rw [yp_val]; omega
    simp only [e]
  have hx : (xp c).val / 2 + c.val / 2 = 1 ∧ (xp c).val % 2 = c.val % 2 := by have := dev_lt c; rw [xp_val]; omega
  rw [outAt_apply m hy c]
  refine ext2 (n0 := 768) (n1 := 768) fun r j => ?_
  have e : Layout.blockN ⟨2, ![768, 768]⟩ ⟨2, ![768, 1536]⟩ (Layout.meshBlock [2, 2] ![[], [1]] c) (whole A B) (by decide) (ix2 r j)
      = whole A B (ix2 r (at2 768 (c.val % 2) (ylt c) j)) := by
    refine congrArg (whole A B) (funext fun a => Fin.ext ?_)
    match a with
    | ⟨0, _⟩ => show 0 * 768 + (r : ℕ) = r; omega
    | ⟨1, _⟩ => show ((c.val / 1) % 2 * 1 + 0) * 768 + (j : ℕ) = c.val % 2 * 768 + j; omega
  rw [e, whole_apply]
  refine Eq.trans ?_ (sum_halves 384 _ _ _ (xlt c) (xlt (xp c)) (by omega)).symm
  show dot (xA m c) (xB m c) r j + dot (xA m (xp c)) (xB m (xp c)) r j = _
  rw [dot_apply hA hB, dot_apply hA hB]
  simp only [hx.2]

end Cert.Exchange

end
-- ==== Proof.lean ====
/-
# The claims

The frames of the printed kernel, the idealized kernel and the reference, and the value of the idealized kernel against the
reference. The kernel's run is in `Launch` (and below it `Sound`, one device's run), its value in `Value`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

set_option smartUnfolding false in
/-- The program as printed has the text of the idealized one, whose run is stated at any float values. -/
theorem frame_kernel : Cert.quiescent_Kernel := fun m ρ _ => Cert.Exchange.run_args (F := Bits) m ρ

/-- The idealized program runs to an end and leaves its arguments alone. -/
theorem frame_ideal : Cert.quiescent_KernelIdeal := fun m ρ _ => Cert.Exchange.run_args (F := Ideal) m ρ

/-- So does the reference, which has no semaphore at all. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the extended reals, and from the blocks of one pair of arrays, every device ends with its block of the reference's
    product of the two. -/
theorem value : Cert.algebraic_KernelIdeal_ReferenceIdeal := fun m ρ m' ρ' _ h => by
  have hc := fun c => (Cert.Exchange.finalA_2 m c).trans
    (Cert.Exchange.outAt_eq (fun c => (Cert.Exchange.xA_eq m c).trans (h c).1) (fun c => (Cert.Exchange.xB_eq m c).trans (h c).2) c)
  exact ⟨Cert.Exchange.whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono (fun _ k c => ⟨(k.1 c).1.trans (hc c), (k.1 c).2⟩) (Cert.Exchange.run_result (F := Ideal) m ρ),
    (θ_run Cert.ReferenceIdeal.defs _ _).mono (fun _ k => k 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
